-- ==== Defs.lean ====
def Pre_KernelIdeal (m : (ℓ : Loc Cert.KernelIdeal.nD Cert.KernelIdeal.τ Cert.KernelIdeal.sig) → Buf (Elt Ideal) ℓ) : Prop :=
  True

def Pre_KernelIdeal_edges_as_drawn [hPre_edges_as_drawn : Cert.Pre_edges_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_edges_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edges_as_drawn [hPre_edges_as_drawn : Cert.Pre_edges_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_edges_as_drawn [hKernelIdeal : Cert.KernelIdeal.Facts] [hPre_edges_as_drawn : Cert.Pre_edges_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_edges_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_edges_as_drawn [hReferenceIdeal : Cert.ReferenceIdeal.Facts] [hPre_edges_as_drawn : Cert.Pre_edges_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def algebraic_KernelIdeal_ReferenceIdeal_pre_edges_as_drawn [hKernelIdeal : Cert.KernelIdeal.Facts] [hReferenceIdeal : Cert.ReferenceIdeal.Facts] [hPre_edges_as_drawn : Cert.Pre_edges_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_edges_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_8) = v0 c
          ∧ r.2.mem ((c.tc : Thread Cert.ReferenceIdeal.nD Cert.ReferenceIdeal.τ).loc Cert.ReferenceIdeal.main_v2_9) = v1 c
          ∧ r.2.mem ((c.tc : Thread Cert.ReferenceIdeal.nD Cert.ReferenceIdeal.τ).loc Cert.ReferenceIdeal.main_v2_12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernelIdeal : Cert.KernelIdeal.Facts) (hReferenceIdeal : Cert.ReferenceIdeal.Facts) (hPre_edges_as_drawn : Cert.Pre_edges_as_drawn.Facts),
    quiescent_KernelIdeal (hKernelIdeal := hKernelIdeal)
    ∧ quiescent_KernelIdeal_pre_edges_as_drawn (hKernelIdeal := hKernelIdeal) (hPre_edges_as_drawn := hPre_edges_as_drawn)
    ∧ quiescent_ReferenceIdeal (hReferenceIdeal := hReferenceIdeal)
    ∧ quiescent_ReferenceIdeal_pre_edges_as_drawn (hReferenceIdeal := hReferenceIdeal) (hPre_edges_as_drawn := hPre_edges_as_drawn)
    ∧ algebraic_KernelIdeal_ReferenceIdeal_pre_edges_as_drawn (hKernelIdeal := hKernelIdeal) (hReferenceIdeal := hReferenceIdeal) (hPre_edges_as_drawn := hPre_edges_as_drawn)
-- ==== Pre_edges_as_drawn.lean ====
abbrev S_ : Shape := ⟨0, ![]⟩
abbrev S64x512 : Shape := ⟨2, ![64, 512]⟩
abbrev S1024x512 : Shape := ⟨2, ![1024, 512]⟩
abbrev S1024 : Shape := ⟨1, ![1024]⟩
abbrev S1024x1024 : Shape := ⟨2, ![1024, 1024]⟩

class Facts : Prop where
  bcast_S_S1024x1024 : S_.BroadcastsInDim S1024x1024 (![] : Fin 0 → Fin S1024x1024.rank)
  transposes_S1024x1024_S1024x1024_1_0 : S1024x1024.Transposes [1, 0] S1024x1024
  reducesTo_S1024x1024_S_d0_1 : S1024x1024.ReducesTo [0, 1] S_
  h_S_ : 0 < S_.numel

variable [Facts]

def fn {F : FTy → Type} [FloatOps F] (main_arg0 : IVec S_ 32) (main_arg1 : FVec F S64x512 .f32) (main_arg2 : FVec F S1024x512 .f32) (main_arg3 : FVec F S1024 .f32) (main_arg4 : IVec S1024x1024 32) (main_arg5 : FVec F S_ .f32) (main_arg6 : FVec F S_ .f32) (main_arg7 : FVec F S_ .f32) (main_arg8 : FVec F S_ .f32) (main_arg9 : FVec F S_ .f32) : IVec S_ 1 :=
  let main_v0 : IVec S1024x1024 32 := iotaInDim S1024x1024 32 0
  let main_c : IVec S_ 32 := constantI S_ 32 4294967295#32
  let main_v1 : IVec S1024x1024 32 := broadcastInDim S1024x1024 ![] bcast_S_S1024x1024 main_c
  let main_v2 : IVec S1024x1024 1 := cmpi .sgt main_arg4 main_v1
  let main_v3 : IVec S1024x1024 32 := (transpose S1024x1024 [1, 0] · transposes_S1024x1024_S1024x1024_1_0) main_arg4
  let main_c_0 : IVec S_ 32 := constantI S_ 32 4294967295#32
  let main_v4 : IVec S1024x1024 32 := broadcastInDim S1024x1024 ![] bcast_S_S1024x1024 main_c_0
  let main_v5 : IVec S1024x1024 1 := cmpi .sgt main_v3 main_v4
  let main_v6 : IVec S1024x1024 1 := cmpi .eq main_v2 main_v5
  let main_c_1 : IVec S_ 32 := constantI S_ 32 36#32
  let main_v7 : IVec S1024x1024 32 := broadcastInDim S1024x1024 ![] bcast_S_S1024x1024 main_c_1
  let main_v8 : IVec S1024x1024 1 := cmpi .sle main_arg4 main_v7
  let main_v9 : IVec S1024x1024 1 := andi main_v6 main_v8
  let main_c_2 : IVec S_ 32 := constantI S_ 32 960#32
  let main_v10 : IVec S1024x1024 32 := broadcastInDim S1024x1024 ![] bcast_S_S1024x1024 main_c_2
  let main_v11 : IVec S1024x1024 1 := cmpi .sge main_v0 main_v10
  let main_v12 : IVec S1024x1024 1 := andi main_v2 main_v11
  let main_v13 : IVec S1024x1024 1 := noti main_v12
  let main_v14 : IVec S1024x1024 1 := andi main_v9 main_v13
  let main_c_3 : IVec S_ 1 := constantI S_ 1 1#1
  let main_v15 : IVec S_ 1 := (fun x v => Host.reduce IntOp.andi x v reducesTo_S1024x1024_S_d0_1 h_S_) main_v14 main_c_3
  main_v15
-- ==== KernelIdeal.lean ====
abbrev S_ : Shape := ⟨0, ![]⟩
abbrev S64x512 : Shape := ⟨2, ![64, 512]⟩
abbrev S1024x512 : Shape := ⟨2, ![1024, 512]⟩
abbrev S1024 : Shape := ⟨1, ![1024]⟩
abbrev S1024x1024 : Shape := ⟨2, ![1024, 1024]⟩
abbrev S1 : Shape := ⟨1, ![1]⟩
abbrev S5 : Shape := ⟨1, ![5]⟩
abbrev S8x128 : Shape := ⟨2, ![8, 128]⟩
abbrev S1x64 : Shape := ⟨2, ![1, 64]⟩
abbrev S1x1024 : Shape := ⟨2, ![1, 1024]⟩
abbrev S1x512 : Shape := ⟨2, ![1, 512]⟩
abbrev S1024x1 : Shape := ⟨2, ![1024, 1]⟩
abbrev S1x8x128 : Shape := ⟨3, ![1, 8, 128]⟩
abbrev S1x1x1 : Shape := ⟨3, ![1, 1, 1]⟩
abbrev S1x1x512 : Shape := ⟨3, ![1, 1, 512]⟩
abbrev S64 : Shape := ⟨1, ![64]⟩

abbrev nBuf : Space → Nat
  | .hbm => 22
  | .vmem => 9
  | .smem => 1
  | _ => 0

abbrev bufTy : (tb : Table) → Fin (tcTables nBuf tb) → BufTy
  | .hbm, ⟨0, _⟩ => ⟨S_, .i32⟩
  | .hbm, ⟨1, _⟩ => ⟨S64x512, .f32⟩
  | .hbm, ⟨2, _⟩ => ⟨S1024x512, .f32⟩
  | .hbm, ⟨3, _⟩ => ⟨S1024, .f32⟩
  | .hbm, ⟨4, _⟩ => ⟨S1024x1024, .i32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1, .f32⟩
  | .hbm, ⟨11, _⟩ => ⟨S1, .f32⟩
  | .hbm, ⟨12, _⟩ => ⟨S1, .f32⟩
  | .hbm, ⟨13, _⟩ => ⟨S1, .f32⟩
  | .hbm, ⟨14, _⟩ => ⟨S1, .f32⟩
  | .hbm, ⟨15, _⟩ => ⟨S5, .f32⟩
  | .hbm, ⟨16, _⟩ => ⟨S8x128, .f32⟩
  | .hbm, ⟨17, _⟩ => ⟨S1024x512, .f32⟩
  | .hbm, ⟨18, _⟩ => ⟨S8x128, .f32⟩
  | .hbm, ⟨19, _⟩ => ⟨S1x64, .f32⟩
  | .hbm, ⟨20, _⟩ => ⟨S1024, .f32⟩
  | .hbm, ⟨21, _⟩ => ⟨S64, .f32⟩
  | .local _ .vmem, ⟨0, _⟩ => ⟨S64x512, .f32⟩
  | .local _ .vmem, ⟨1, _⟩ => ⟨S1024x512, .f32⟩
  | .local _ .vmem, ⟨2, _⟩ => ⟨S8x128, .f32⟩
  | .local _ .vmem, ⟨3, _⟩ => ⟨S1024x1024, .i32⟩
  | .local _ .vmem, ⟨4, _⟩ => ⟨S1024x512, .f32⟩
  | .local _ .vmem, ⟨5, _⟩ => ⟨S8x128, .f32⟩
  | .local _ .vmem, ⟨6, _⟩ => ⟨S1x64, .f32⟩
  | .local _ .vmem, ⟨7, _⟩ => ⟨S1024x1024, .i32⟩
  | .local _ .vmem, ⟨8, _⟩ => ⟨S8x128, .f32⟩
  | .local _ .smem, ⟨0, _⟩ => ⟨S5, .f32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v8 : Ref sig .tc := ⟨.hbm, 20, rfl⟩
abbrev main_v9 : Ref sig .tc := ⟨.hbm, 21, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_scratch0 : Ref sig .tc := ⟨.vmem, 7, rfl⟩
abbrev cc0_scratch1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c64_i32 : BitVec 32 := 64#32
  let v35 : BitVec 32 := Scalar.addi c0_i32 c64_i32
  let c1_i32 : BitVec 32 := 1#32
  ⟨c0_i32, v35, c1_i32⟩
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let v38 : Index := Scalar.indexCast arg10
  let c0_21 : Index := 0#32
  ![v38.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c1_i32_22 : BitVec 32 := 1#32
  let v40 : BitVec 32 := Scalar.addi arg10 c1_i32_22
  let c63_i32 : BitVec 32 := 63#32
  let v41 : BitVec 32 := Scalar.minsi v40 c63_i32
  let v42 : Index := Scalar.indexCast v41
  let c0_23 : Index := 0#32
  ![v42.toNat, 0]
def k0_off3 (v105 : BitVec 32) : Fin 2 → Nat :=
  let v126 : Index := Scalar.indexCast v105
  let c0_46 : Index := 0#32
  ![v126.toNat, 0]
def k0_cond1 (arg11 : BitVec 32) (v109 : BitVec 1) (v110 : BitVec 1) : BitVec 1 :=
  let v111 : BitVec 1 := Scalar.andi v109 v110
  let c1024_i32 : BitVec 32 := 1024#32
  let v112 : BitVec 1 := Scalar.cmpi .slt arg11 c1024_i32
  let v113 : BitVec 1 := Scalar.andi v111 v112
  let v114 : BitVec 32 := Scalar.extui v113
  let c0_i32_41 : BitVec 32 := 0#32
  let v115 : BitVec 1 := Scalar.cmpi .ne v114 c0_i32_41
  v115

def k0_off4 (arg11 : BitVec 32) : Fin 2 → Nat :=
  let v132 : Index := Scalar.indexCast arg11
  let c0_48 : Index := 0#32
  ![v132.toNat, 0]
def k0_off5 (v105 : BitVec 32) : Fin 2 → Nat :=
  let v139 : Index := Scalar.indexCast v105
  let c0_52 : Index := 0#32
  ![v139.toNat, 0]
def k0_off6 (v106 : BitVec 32) : Fin 2 → Nat :=
  let v153 : Index := Scalar.indexCast v106
  let c0_55 : Index := 0#32
  ![v153.toNat, 0]
def k0_off7 (arg11 : BitVec 32) : Fin 2 → Nat :=
  let v175 : Index := Scalar.indexCast arg11
  let c0_61 : Index := 0#32
  ![v175.toNat, 0]
def k0_off8 (v105 : BitVec 32) : Fin 2 → Nat :=
  let v128 : Index := Scalar.indexCast v105
  let c0_46 : Index := 0#32
  ![v128.toNat, 0]
def k0_cond2 (arg11 : BitVec 32) (v109 : BitVec 1) (v110 : BitVec 1) : BitVec 1 :=
  let v111 : BitVec 1 := Scalar.andi v109 v110
  let c1024_i32 : BitVec 32 := 1024#32
  let v112 : BitVec 1 := Scalar.cmpi .slt arg11 c1024_i32
  let v113 : BitVec 1 := Scalar.andi v111 v112
  let v_true : BitVec 1 := 1#1
  let v116 : BitVec 1 := Scalar.xori v113 v_true
  let v117 : BitVec 32 := Scalar.extui v116
  let c0_i32_42 : BitVec 32 := 0#32
  let v118 : BitVec 1 := Scalar.cmpi .ne v117 c0_i32_42
  v118

def k0_off9 (v106 : BitVec 32) : Fin 2 → Nat :=
  let v136 : Index := Scalar.indexCast v106
  let c0_49 : Index := 0#32
  ![v136.toNat, 0]
def k0_off10 (v105 : BitVec 32) : Fin 2 → Nat :=
  let v164 : Index := Scalar.indexCast v105
  let c0_53 : Index := 0#32
  ![v164.toNat, 0]

def k0_chk1 (arg11 : BitVec 32) (v105 : BitVec 32) (v106 : BitVec 32) (v109 : BitVec 1) (v110 : BitVec 1) : Prop :=
  (∀ (k0_h1 : k0_cond1 arg11 v109 v110 = 1#1), ∀ a, (k0_off3 v105) a + S1x512.size a ≤ S1024x512.size a) ∧
  (∀ (k0_h1 : k0_cond1 arg11 v109 v110 = 1#1), ∀ a, (k0_off4 arg11) a + S1x512.size a ≤ S1024x512.size a) ∧
  (∀ (k0_h1 : k0_cond1 arg11 v109 v110 = 1#1), ∀ a, (k0_off5 v105) a + S1x1024.size a ≤ S1024x1024.size a) ∧
  (∀ (k0_h1 : k0_cond1 arg11 v109 v110 = 1#1), ∀ a, (k0_off6 v106) a + S1x1024.size a ≤ S1024x1024.size a) ∧
  (∀ (k0_h1 : k0_cond1 arg11 v109 v110 = 1#1), ∀ a, (k0_off7 arg11) a + S1x1024.size a ≤ S1024x1024.size a) ∧
  (∀ (k0_h2 : k0_cond2 arg11 v109 v110 = 1#1), ∀ a, (k0_off8 v105) a + S1x1024.size a ≤ S1024x1024.size a) ∧
  (∀ (k0_h2 : k0_cond2 arg11 v109 v110 = 1#1), ∀ a, (k0_off9 v106) a + S1x1024.size a ≤ S1024x1024.size a) ∧
  (∀ (k0_h2 : k0_cond2 arg11 v109 v110 = 1#1), ∀ a, (k0_off10 v105) a + S1x512.size a ≤ S1024x512.size a)
theorem k0_off3_inb : ∀ (arg11 : BitVec 32) (v105 : BitVec 32) (v106 : BitVec 32) (v109 : BitVec 1) (v110 : BitVec 1) (k0_hw1 : k0_chk1 arg11 v105 v106 v109 v110), ∀ (k0_h1 : k0_cond1 arg11 v109 v110 = 1#1), ∀ a, (k0_off3 v105) a + S1x512.size a ≤ S1024x512.size a := fun arg11 v105 v106 v109 v110 k0_hw1 k0_h1 => k0_hw1.1 k0_h1
theorem k0_off4_inb : ∀ (arg11 : BitVec 32) (v105 : BitVec 32) (v106 : BitVec 32) (v109 : BitVec 1) (v110 : BitVec 1) (k0_hw1 : k0_chk1 arg11 v105 v106 v109 v110), ∀ (k0_h1 : k0_cond1 arg11 v109 v110 = 1#1), ∀ a, (k0_off4 arg11) a + S1x512.size a ≤ S1024x512.size a := fun arg11 v105 v106 v109 v110 k0_hw1 k0_h1 => k0_hw1.2.1 k0_h1
theorem k0_off5_inb : ∀ (arg11 : BitVec 32) (v105 : BitVec 32) (v106 : BitVec 32) (v109 : BitVec 1) (v110 : BitVec 1) (k0_hw1 : k0_chk1 arg11 v105 v106 v109 v110), ∀ (k0_h1 : k0_cond1 arg11 v109 v110 = 1#1), ∀ a, (k0_off5 v105) a + S1x1024.size a ≤ S1024x1024.size a := fun arg11 v105 v106 v109 v110 k0_hw1 k0_h1 => k0_hw1.2.2.1 k0_h1
theorem k0_off6_inb : ∀ (arg11 : BitVec 32) (v105 : BitVec 32) (v106 : BitVec 32) (v109 : BitVec 1) (v110 : BitVec 1) (k0_hw1 : k0_chk1 arg11 v105 v106 v109 v110), ∀ (k0_h1 : k0_cond1 arg11 v109 v110 = 1#1), ∀ a, (k0_off6 v106) a + S1x1024.size a ≤ S1024x1024.size a := fun arg11 v105 v106 v109 v110 k0_hw1 k0_h1 => k0_hw1.2.2.2.1 k0_h1
theorem k0_off7_inb : ∀ (arg11 : BitVec 32) (v105 : BitVec 32) (v106 : BitVec 32) (v109 : BitVec 1) (v110 : BitVec 1) (k0_hw1 : k0_chk1 arg11 v105 v106 v109 v110), ∀ (k0_h1 : k0_cond1 arg11 v109 v110 = 1#1), ∀ a, (k0_off7 arg11) a + S1x1024.size a ≤ S1024x1024.size a := fun arg11 v105 v106 v109 v110 k0_hw1 k0_h1 => k0_hw1.2.2.2.2.1 k0_h1
theorem k0_off8_inb : ∀ (arg11 : BitVec 32) (v105 : BitVec 32) (v106 : BitVec 32) (v109 : BitVec 1) (v110 : BitVec 1) (k0_hw1 : k0_chk1 arg11 v105 v106 v109 v110), ∀ (k0_h2 : k0_cond2 arg11 v109 v110 = 1#1), ∀ a, (k0_off8 v105) a + S1x1024.size a ≤ S1024x1024.size a := fun arg11 v105 v106 v109 v110 k0_hw1 k0_h2 => k0_hw1.2.2.2.2.2.1 k0_h2
theorem k0_off9_inb : ∀ (arg11 : BitVec 32) (v105 : BitVec 32) (v106 : BitVec 32) (v109 : BitVec 1) (v110 : BitVec 1) (k0_hw1 : k0_chk1 arg11 v105 v106 v109 v110), ∀ (k0_h2 : k0_cond2 arg11 v109 v110 = 1#1), ∀ a, (k0_off9 v106) a + S1x1024.size a ≤ S1024x1024.size a := fun arg11 v105 v106 v109 v110 k0_hw1 k0_h2 => k0_hw1.2.2.2.2.2.2.1 k0_h2
theorem k0_off10_inb : ∀ (arg11 : BitVec 32) (v105 : BitVec 32) (v106 : BitVec 32) (v109 : BitVec 1) (v110 : BitVec 1) (k0_hw1 : k0_chk1 arg11 v105 v106 v109 v110), ∀ (k0_h2 : k0_cond2 arg11 v109 v110 = 1#1), ∀ a, (k0_off10 v105) a + S1x512.size a ≤ S1024x512.size a := fun arg11 v105 v106 v109 v110 k0_hw1 k0_h2 => k0_hw1.2.2.2.2.2.2.2 k0_h2

abbrev stage0_0 : Fin 1 → Memref sig .tc .smem S5 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S_ : Shape := ⟨0, ![]⟩
abbrev S64x512 : Shape := ⟨2, ![64, 512]⟩
abbrev S1024x512 : Shape := ⟨2, ![1024, 512]⟩
abbrev S1024 : Shape := ⟨1, ![1024]⟩
abbrev S1024x1024 : Shape := ⟨2, ![1024, 1024]⟩
abbrev S64 : Shape := ⟨1, ![64]⟩
abbrev S1x512 : Shape := ⟨2, ![1, 512]⟩
abbrev S512 : Shape := ⟨1, ![512]⟩
abbrev S2 : Shape := ⟨1, ![2]⟩
abbrev S1 : Shape := ⟨1, ![1]⟩
abbrev S1024x1 : Shape := ⟨2, ![1024, 1]⟩
abbrev S1x1024 : Shape := ⟨2, ![1, 1024]⟩

abbrev nBuf : Space → Nat
  | .hbm => 241
  | .vmem => 0
  | .smem => 0
  | _ => 0

abbrev hbmTy0_0 (i : Nat) : BufTy := match i % 128 with
  | 0 => ⟨S_, .i32⟩
  | 1 => ⟨S64x512, .f32⟩
  | 2 => ⟨S1024x512, .f32⟩
  | 3 => ⟨S1024, .f32⟩
  | 4 => ⟨S1024x1024, .i32⟩
  | 5 => ⟨S_, .f32⟩
  | 6 => ⟨S_, .f32⟩
  | 7 => ⟨S_, .f32⟩
  | 8 => ⟨S_, .f32⟩
  | 9 => ⟨S_, .f32⟩
  | 10 => ⟨S1024, .i32⟩
  | 11 => ⟨S_, .i32⟩
  | 12 => ⟨S_, .f32⟩
  | 13 => ⟨S64, .f32⟩
  | 14 => ⟨S_, .i32⟩
  | 15 => ⟨S64x512, .f32⟩
  | 16 => ⟨S1024, .i32⟩
  | 17 => ⟨S_, .f32⟩
  | 18 => ⟨S_, .f32⟩
  | 19 => ⟨S_, .f32⟩
  | 20 => ⟨S_, .f32⟩
  | 21 => ⟨S_, .f32⟩
  | 22 => ⟨S_, .i32⟩
  | 23 => ⟨S1024x512, .f32⟩
  | 24 => ⟨S1024, .f32⟩
  | 25 => ⟨S1024x1024, .i32⟩
  | 26 => ⟨S_, .i32⟩
  | 27 => ⟨S64, .f32⟩
  | 28 => ⟨S_, .i32⟩
  | 29 => ⟨S_, .i1⟩
  | 30 => ⟨S_, .i32⟩
  | 31 => ⟨S1x512, .f32⟩
  | 32 => ⟨S512, .f32⟩
  | 33 => ⟨S1x512, .f32⟩
  | 34 => ⟨S1024x512, .f32⟩
  | 35 => ⟨S1024x512, .f32⟩
  | 36 => ⟨S1024x512, .f32⟩
  | 37 => ⟨S_, .f32⟩
  | 38 => ⟨S1024, .f32⟩
  | 39 => ⟨S_, .f32⟩
  | 40 => ⟨S1024, .f32⟩
  | 41 => ⟨S1024, .f32⟩
  | 42 => ⟨S1024, .f32⟩
  | 43 => ⟨S1024, .i32⟩
  | 44 => ⟨S1024, .i1⟩
  | 45 => ⟨S_, .f32⟩
  | 46 => ⟨S_, .f32⟩
  | 47 => ⟨S1024, .f32⟩
  | 48 => ⟨S1024, .f32⟩
  | 49 => ⟨S1024, .f32⟩
  | 50 => ⟨S2, .f32⟩
  | 51 => ⟨S2, .i32⟩
  | 52 => ⟨S1, .i32⟩
  | 53 => ⟨S_, .i32⟩
  | 54 => ⟨S1, .i32⟩
  | 55 => ⟨S_, .i32⟩
  | 56 => ⟨S1, .f32⟩
  | 57 => ⟨S_, .f32⟩
  | 58 => ⟨S_, .f32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S1x512, .f32⟩
  | 73 => ⟨S512, .f32⟩
  | 74 => ⟨S_, .i32⟩
  | 75 => ⟨S_, .i1⟩
  | 76 => ⟨S_, .i32⟩
  | 77 => ⟨S_, .i32⟩
  | 78 => ⟨S_, .i32⟩
  | 79 => ⟨S1, .f32⟩
  | 80 => ⟨S_, .f32⟩
  | 81 => ⟨S_, .f32⟩
  | 82 => ⟨S_, .i1⟩
  | 83 => ⟨S_, .f32⟩
  | 84 => ⟨S_, .i1⟩
  | 85 => ⟨S_, .i1⟩
  | 86 => ⟨S_, .i32⟩
  | 87 => ⟨S_, .i1⟩
  | 88 => ⟨S_, .i1⟩
  | 89 => ⟨S1024, .i32⟩
  | 90 => ⟨S1024, .i1⟩
  | 91 => ⟨S1024, .i32⟩
  | 92 => ⟨S1024, .i1⟩
  | 93 => ⟨S1024, .i32⟩
  | 94 => ⟨S1024, .i1⟩
  | 95 => ⟨S1024x1, .i1⟩
  | 96 => ⟨S1x1024, .i1⟩
  | 97 => ⟨S1024x1024, .i1⟩
  | 98 => ⟨S1024x1024, .i1⟩
  | 99 => ⟨S1024x1024, .i1⟩
  | 100 => ⟨S1024x1, .i1⟩
  | 101 => ⟨S1x1024, .i1⟩
  | 102 => ⟨S1024x1024, .i1⟩
  | 103 => ⟨S1024x1024, .i1⟩
  | 104 => ⟨S1024x1024, .i1⟩
  | 105 => ⟨S1024x1024, .i1⟩
  | 106 => ⟨S1024x1, .i1⟩
  | 107 => ⟨S512, .f32⟩
  | 108 => ⟨S_, .f32⟩
  | 109 => ⟨S512, .f32⟩
  | 110 => ⟨S512, .f32⟩
  | 111 => ⟨S1024x512, .i1⟩
  | 112 => ⟨S1024x512, .f32⟩
  | 113 => ⟨S1024x512, .f32⟩
  | 114 => ⟨S_, .f32⟩
  | 115 => ⟨S_, .f32⟩
  | 116 => ⟨S1024, .f32⟩
  | 117 => ⟨S1024, .f32⟩
  | 118 => ⟨S1024, .i1⟩
  | 119 => ⟨S1024x1, .i1⟩
  | 120 => ⟨S1x1024, .i1⟩
  | 121 => ⟨S1024x1024, .i1⟩
  | 122 => ⟨S1024x1024, .i1⟩
  | 123 => ⟨S1024x1024, .i1⟩
  | 124 => ⟨S1024x1, .i1⟩
  | 125 => ⟨S1024, .i1⟩
  | 126 => ⟨S1x1024, .i1⟩
  | 127 => ⟨S1024x1024, .i1⟩
  | _ => ⟨S_, .i32⟩

abbrev hbmTy0_1 (i : Nat) : BufTy := match i % 128 with
  | 0 => ⟨S1024x1024, .i1⟩
  | 1 => ⟨S1024x1024, .i1⟩
  | 2 => ⟨S1024x1024, .i1⟩
  | 3 => ⟨S_, .i32⟩
  | 4 => ⟨S_, .i32⟩
  | 5 => ⟨S1024x1024, .i32⟩
  | 6 => ⟨S1024x1024, .i32⟩
  | 7 => ⟨S_, .i32⟩
  | 8 => ⟨S_, .i32⟩
  | 9 => ⟨S1024x1024, .i32⟩
  | 10 => ⟨S1024x1024, .i32⟩
  | 11 => ⟨S_, .i32⟩
  | 12 => ⟨S_, .i32⟩
  | 13 => ⟨S1024x1024, .i32⟩
  | 14 => ⟨S1024x1024, .i32⟩
  | 15 => ⟨S1024x1, .i1⟩
  | 16 => ⟨S_, .f32⟩
  | 17 => ⟨S512, .f32⟩
  | 18 => ⟨S512, .f32⟩
  | 19 => ⟨S512, .f32⟩
  | 20 => ⟨S512, .f32⟩
  | 21 => ⟨S1024x512, .i1⟩
  | 22 => ⟨S1024x512, .f32⟩
  | 23 => ⟨S1024x512, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S1024, .f32⟩
  | 31 => ⟨S1024, .f32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S1x1024, .i32⟩
  | 46 => ⟨S1024, .i32⟩
  | 47 => ⟨S_, .i32⟩
  | 48 => ⟨S1024, .i32⟩
  | 49 => ⟨S1024, .i1⟩
  | 50 => ⟨S1024, .i32⟩
  | 51 => ⟨S1024, .i1⟩
  | 52 => ⟨S1024, .i1⟩
  | 53 => ⟨S1024x1, .i1⟩
  | 54 => ⟨S1024x1, .f32⟩
  | 55 => ⟨S1024x1, .f32⟩
  | 56 => ⟨S1024x1, .f32⟩
  | 57 => ⟨S1x512, .f32⟩
  | 58 => ⟨S1024x512, .f32⟩
  | 59 => ⟨S1024x512, .f32⟩
  | 60 => ⟨S1024x512, .f32⟩
  | 61 => ⟨S1024x512, .f32⟩
  | 62 => ⟨S_, .f32⟩
  | 63 => ⟨S_, .f32⟩
  | 64 => ⟨S1024x512, .i1⟩
  | 65 => ⟨S1024x512, .f32⟩
  | 66 => ⟨S1024x512, .f32⟩
  | 67 => ⟨S1024x512, .f32⟩
  | 68 => ⟨S_, .f32⟩
  | 69 => ⟨S_, .f32⟩
  | 70 => ⟨S1024, .f32⟩
  | 71 => ⟨S1024, .f32⟩
  | 72 => ⟨S1024, .f32⟩
  | 73 => ⟨S1024, .f32⟩
  | 74 => ⟨S1024, .f32⟩
  | 75 => ⟨S1024, .f32⟩
  | 76 => ⟨S_, .f32⟩
  | 77 => ⟨S_, .f32⟩
  | 78 => ⟨S1024, .f32⟩
  | 79 => ⟨S1024, .f32⟩
  | 80 => ⟨S1024, .f32⟩
  | 81 => ⟨S1024x1, .i1⟩
  | 82 => ⟨S1x1024, .i1⟩
  | 83 => ⟨S1024x1024, .i1⟩
  | 84 => ⟨S1024x1024, .i1⟩
  | 85 => ⟨S1024x1024, .i1⟩
  | 86 => ⟨S1024x1, .i1⟩
  | 87 => ⟨S1x1024, .i1⟩
  | 88 => ⟨S1024x1024, .i1⟩
  | 89 => ⟨S1024x1024, .i1⟩
  | 90 => ⟨S1024x1024, .i1⟩
  | 91 => ⟨S1024x1024, .i1⟩
  | 92 => ⟨S_, .i32⟩
  | 93 => ⟨S1024x1024, .i32⟩
  | 94 => ⟨S1024x1024, .i1⟩
  | 95 => ⟨S_, .i32⟩
  | 96 => ⟨S1024x1024, .i32⟩
  | 97 => ⟨S1024x1024, .i32⟩
  | 98 => ⟨S_, .i32⟩
  | 99 => ⟨S_, .i32⟩
  | 100 => ⟨S1024x1024, .i32⟩
  | 101 => ⟨S1024x1024, .i32⟩
  | 102 => ⟨S1024x1024, .i32⟩
  | 103 => ⟨S1024x512, .f32⟩
  | 104 => ⟨S1024, .f32⟩
  | 105 => ⟨S1024x1024, .i32⟩
  | 106 => ⟨S_, .i32⟩
  | 107 => ⟨S_, .i32⟩
  | 108 => ⟨S_, .i32⟩
  | 109 => ⟨S1, .f32⟩
  | 110 => ⟨S64, .f32⟩
  | 111 => ⟨S_, .i32⟩
  | 112 => ⟨S_, .i32⟩
  | _ => ⟨S_, .i32⟩

abbrev hbmTy (i : Nat) : BufTy := match i / 128 with
  | 0 => hbmTy0_0 i
  | 1 => hbmTy0_1 i
  | _ => ⟨S_, .i32⟩

abbrev bufTy : (tb : Table) → Fin (tcTables nBuf tb) → BufTy
  | .hbm, ⟨i, _⟩ => hbmTy i
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_cst : Ref sig .tc := ⟨.hbm, 12, rfl⟩
abbrev main_v1 : Ref sig .tc := ⟨.hbm, 13, rfl⟩
abbrev main_c_0 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v2_4 : Ref sig .tc := ⟨.hbm, 19, rfl⟩
abbrev main_v2_5 : Ref sig .tc := ⟨.hbm, 20, rfl⟩
abbrev main_v2_6 : Ref sig .tc := ⟨.hbm, 21, rfl⟩
abbrev main_v2_7 : Ref sig .tc := ⟨.hbm, 22, rfl⟩
abbrev main_v2_8 : Ref sig .tc := ⟨.hbm, 23, rfl⟩
abbrev main_v2_9 : Ref sig .tc := ⟨.hbm, 24, rfl⟩
abbrev main_v2_10 : Ref sig .tc := ⟨.hbm, 25, rfl⟩
abbrev main_v2_11 : Ref sig .tc := ⟨.hbm, 26, rfl⟩
abbrev main_v2_12 : Ref sig .tc := ⟨.hbm, 27, rfl⟩
abbrev main_while0c_c_13 : Ref sig .tc := ⟨.hbm, 28, rfl⟩
abbrev main_while0c_v3 : Ref sig .tc := ⟨.hbm, 29, rfl⟩
abbrev main_while0b_call0_c : Ref sig .tc := ⟨.hbm, 30, rfl⟩
abbrev main_while0b_call0_v0 : Ref sig .tc := ⟨.hbm, 31, rfl⟩
abbrev main_while0b_v3 : Ref sig .tc := ⟨.hbm, 32, rfl⟩
abbrev main_while0b_v4 : Ref sig .tc := ⟨.hbm, 33, rfl⟩
abbrev main_while0b_v5 : Ref sig .tc := ⟨.hbm, 34, rfl⟩
abbrev main_while0b_v6 : Ref sig .tc := ⟨.hbm, 35, rfl⟩
abbrev main_while0b_v7 : Ref sig .tc := ⟨.hbm, 36, rfl⟩
abbrev main_while0b_cst_13 : Ref sig .tc := ⟨.hbm, 37, rfl⟩
abbrev main_while0b_v8 : Ref sig .tc := ⟨.hbm, 38, rfl⟩
abbrev main_while0b_cst_14 : Ref sig .tc := ⟨.hbm, 39, rfl⟩
abbrev main_while0b_v9 : Ref sig .tc := ⟨.hbm, 40, rfl⟩
abbrev main_while0b_v10 : Ref sig .tc := ⟨.hbm, 41, rfl⟩
abbrev main_while0b_v11 : Ref sig .tc := ⟨.hbm, 42, rfl⟩
abbrev main_while0b_v12 : Ref sig .tc := ⟨.hbm, 43, rfl⟩
abbrev main_while0b_v13 : Ref sig .tc := ⟨.hbm, 44, rfl⟩
abbrev main_while0b_cst_15 : Ref sig .tc := ⟨.hbm, 45, rfl⟩
abbrev main_while0b_call1_v0 : Ref sig .tc := ⟨.hbm, 46, rfl⟩
abbrev main_while0b_call1_v1 : Ref sig .tc := ⟨.hbm, 47, rfl⟩
abbrev main_while0b_v14 : Ref sig .tc := ⟨.hbm, 48, rfl⟩
abbrev main_while0b_v15 : Ref sig .tc := ⟨.hbm, 49, rfl⟩
abbrev main_while0b_values : Ref sig .tc := ⟨.hbm, 50, rfl⟩
abbrev main_while0b_indices : Ref sig .tc := ⟨.hbm, 51, rfl⟩
abbrev main_while0b_v16 : Ref sig .tc := ⟨.hbm, 52, rfl⟩
abbrev main_while0b_v17 : Ref sig .tc := ⟨.hbm, 53, rfl⟩
abbrev main_while0b_v18 : Ref sig .tc := ⟨.hbm, 54, rfl⟩
abbrev main_while0b_v19 : Ref sig .tc := ⟨.hbm, 55, rfl⟩
abbrev main_while0b_v20 : Ref sig .tc := ⟨.hbm, 56, rfl⟩
abbrev main_while0b_v21 : Ref sig .tc := ⟨.hbm, 57, rfl⟩
abbrev main_while0b_v22 : Ref sig .tc := ⟨.hbm, 58, rfl⟩
abbrev main_while0b_c_16 : Ref sig .tc := ⟨.hbm, 59, rfl⟩
abbrev main_while0b_v23 : Ref sig .tc := ⟨.hbm, 60, rfl⟩
abbrev main_while0b_c_17 : Ref sig .tc := ⟨.hbm, 61, rfl⟩
abbrev main_while0b_v24 : Ref sig .tc := ⟨.hbm, 62, rfl⟩
abbrev main_while0b_v25 : Ref sig .tc := ⟨.hbm, 63, rfl⟩
abbrev main_while0b_c_18 : Ref sig .tc := ⟨.hbm, 64, rfl⟩
abbrev main_while0b_c_19 : Ref sig .tc := ⟨.hbm, 65, rfl⟩
abbrev main_while0b_v26 : Ref sig .tc := ⟨.hbm, 66, rfl⟩
abbrev main_while0b_c_20 : Ref sig .tc := ⟨.hbm, 67, rfl⟩
abbrev main_while0b_c_21 : Ref sig .tc := ⟨.hbm, 68, rfl⟩
abbrev main_while0b_v27 : Ref sig .tc := ⟨.hbm, 69, rfl⟩
abbrev main_while0b_c_22 : Ref sig .tc := ⟨.hbm, 70, rfl⟩
abbrev main_while0b_v28 : Ref sig .tc := ⟨.hbm, 71, rfl⟩
abbrev main_while0b_v29 : Ref sig .tc := ⟨.hbm, 72, rfl⟩
abbrev main_while0b_v30 : Ref sig .tc := ⟨.hbm, 73, rfl⟩
abbrev main_while0b_c_23 : Ref sig .tc := ⟨.hbm, 74, rfl⟩
abbrev main_while0b_v31 : Ref sig .tc := ⟨.hbm, 75, rfl⟩
abbrev main_while0b_c_24 : Ref sig .tc := ⟨.hbm, 76, rfl⟩
abbrev main_while0b_v32 : Ref sig .tc := ⟨.hbm, 77, rfl⟩
abbrev main_while0b_v33 : Ref sig .tc := ⟨.hbm, 78, rfl⟩
abbrev main_while0b_v34 : Ref sig .tc := ⟨.hbm, 79, rfl⟩
abbrev main_while0b_v35 : Ref sig .tc := ⟨.hbm, 80, rfl⟩
abbrev main_while0b_cst_25 : Ref sig .tc := ⟨.hbm, 81, rfl⟩
abbrev main_while0b_v36 : Ref sig .tc := ⟨.hbm, 82, rfl⟩
abbrev main_while0b_cst_26 : Ref sig .tc := ⟨.hbm, 83, rfl⟩
abbrev main_while0b_v37 : Ref sig .tc := ⟨.hbm, 84, rfl⟩
abbrev main_while0b_v38 : Ref sig .tc := ⟨.hbm, 85, rfl⟩
abbrev main_while0b_c_27 : Ref sig .tc := ⟨.hbm, 86, rfl⟩
abbrev main_while0b_v39 : Ref sig .tc := ⟨.hbm, 87, rfl⟩
abbrev main_while0b_v40 : Ref sig .tc := ⟨.hbm, 88, rfl⟩
abbrev main_while0b_v41 : Ref sig .tc := ⟨.hbm, 89, rfl⟩
abbrev main_while0b_v42 : Ref sig .tc := ⟨.hbm, 90, rfl⟩
abbrev main_while0b_v43 : Ref sig .tc := ⟨.hbm, 91, rfl⟩
abbrev main_while0b_v44 : Ref sig .tc := ⟨.hbm, 92, rfl⟩
abbrev main_while0b_v45 : Ref sig .tc := ⟨.hbm, 93, rfl⟩
abbrev main_while0b_v46 : Ref sig .tc := ⟨.hbm, 94, rfl⟩
abbrev main_while0b_v47 : Ref sig .tc := ⟨.hbm, 95, rfl⟩
abbrev main_while0b_v48 : Ref sig .tc := ⟨.hbm, 96, rfl⟩
abbrev main_while0b_v49 : Ref sig .tc := ⟨.hbm, 97, rfl⟩
abbrev main_while0b_v50 : Ref sig .tc := ⟨.hbm, 98, rfl⟩
abbrev main_while0b_v51 : Ref sig .tc := ⟨.hbm, 99, rfl⟩
abbrev main_while0b_v52 : Ref sig .tc := ⟨.hbm, 100, rfl⟩
abbrev main_while0b_v53 : Ref sig .tc := ⟨.hbm, 101, rfl⟩
abbrev main_while0b_v54 : Ref sig .tc := ⟨.hbm, 102, rfl⟩
abbrev main_while0b_v55 : Ref sig .tc := ⟨.hbm, 103, rfl⟩
abbrev main_while0b_v56 : Ref sig .tc := ⟨.hbm, 104, rfl⟩
abbrev main_while0b_v57 : Ref sig .tc := ⟨.hbm, 105, rfl⟩
abbrev main_while0b_v58 : Ref sig .tc := ⟨.hbm, 106, rfl⟩
abbrev main_while0b_v59 : Ref sig .tc := ⟨.hbm, 107, rfl⟩
abbrev main_while0b_cst_28 : Ref sig .tc := ⟨.hbm, 108, rfl⟩
abbrev main_while0b_v60 : Ref sig .tc := ⟨.hbm, 109, rfl⟩
abbrev main_while0b_v61 : Ref sig .tc := ⟨.hbm, 110, rfl⟩
abbrev main_while0b_call2_v0 : Ref sig .tc := ⟨.hbm, 111, rfl⟩
abbrev main_while0b_call2_v1 : Ref sig .tc := ⟨.hbm, 112, rfl⟩
abbrev main_while0b_v62 : Ref sig .tc := ⟨.hbm, 113, rfl⟩
abbrev main_while0b_cst_29 : Ref sig .tc := ⟨.hbm, 114, rfl⟩
abbrev main_while0b_call3_v0 : Ref sig .tc := ⟨.hbm, 115, rfl⟩
abbrev main_while0b_call3_v1 : Ref sig .tc := ⟨.hbm, 116, rfl⟩
abbrev main_while0b_v63 : Ref sig .tc := ⟨.hbm, 117, rfl⟩
abbrev main_while0b_v64 : Ref sig .tc := ⟨.hbm, 118, rfl⟩
abbrev main_while0b_v65 : Ref sig .tc := ⟨.hbm, 119, rfl⟩
abbrev main_while0b_v66 : Ref sig .tc := ⟨.hbm, 120, rfl⟩
abbrev main_while0b_v67 : Ref sig .tc := ⟨.hbm, 121, rfl⟩
abbrev main_while0b_v68 : Ref sig .tc := ⟨.hbm, 122, rfl⟩
abbrev main_while0b_v69 : Ref sig .tc := ⟨.hbm, 123, rfl⟩
abbrev main_while0b_v70 : Ref sig .tc := ⟨.hbm, 124, rfl⟩
abbrev main_while0b_v71 : Ref sig .tc := ⟨.hbm, 125, rfl⟩
abbrev main_while0b_v72 : Ref sig .tc := ⟨.hbm, 126, rfl⟩
abbrev main_while0b_v73 : Ref sig .tc := ⟨.hbm, 127, rfl⟩
abbrev main_while0b_v74 : Ref sig .tc := ⟨.hbm, 128, rfl⟩
abbrev main_while0b_v75 : Ref sig .tc := ⟨.hbm, 129, rfl⟩
abbrev main_while0b_v76 : Ref sig .tc := ⟨.hbm, 130, rfl⟩
abbrev main_while0b_c_30 : Ref sig .tc := ⟨.hbm, 131, rfl⟩
abbrev main_while0b_call4_v0 : Ref sig .tc := ⟨.hbm, 132, rfl⟩
abbrev main_while0b_call4_v1 : Ref sig .tc := ⟨.hbm, 133, rfl⟩
abbrev main_while0b_v77 : Ref sig .tc := ⟨.hbm, 134, rfl⟩
abbrev main_while0b_c_31 : Ref sig .tc := ⟨.hbm, 135, rfl⟩
abbrev main_while0b_call5_v0 : Ref sig .tc := ⟨.hbm, 136, rfl⟩
abbrev main_while0b_call5_v1 : Ref sig .tc := ⟨.hbm, 137, rfl⟩
abbrev main_while0b_v78 : Ref sig .tc := ⟨.hbm, 138, rfl⟩
abbrev main_while0b_c_32 : Ref sig .tc := ⟨.hbm, 139, rfl⟩
abbrev main_while0b_call6_v0 : Ref sig .tc := ⟨.hbm, 140, rfl⟩
abbrev main_while0b_call6_v1 : Ref sig .tc := ⟨.hbm, 141, rfl⟩
abbrev main_while0b_v79 : Ref sig .tc := ⟨.hbm, 142, rfl⟩
abbrev main_while0b_v80 : Ref sig .tc := ⟨.hbm, 143, rfl⟩
abbrev main_while0b_v81 : Ref sig .tc := ⟨.hbm, 144, rfl⟩
abbrev main_while0b_v82 : Ref sig .tc := ⟨.hbm, 145, rfl⟩
abbrev main_while0b_v83 : Ref sig .tc := ⟨.hbm, 146, rfl⟩
abbrev main_while0b_v84 : Ref sig .tc := ⟨.hbm, 147, rfl⟩
abbrev main_while0b_v85 : Ref sig .tc := ⟨.hbm, 148, rfl⟩
abbrev main_while0b_call7_v0 : Ref sig .tc := ⟨.hbm, 149, rfl⟩
abbrev main_while0b_call7_v1 : Ref sig .tc := ⟨.hbm, 150, rfl⟩
abbrev main_while0b_v86 : Ref sig .tc := ⟨.hbm, 151, rfl⟩
abbrev main_while0b_v87 : Ref sig .tc := ⟨.hbm, 152, rfl⟩
abbrev main_while0b_cst_33 : Ref sig .tc := ⟨.hbm, 153, rfl⟩
abbrev main_while0b_v88 : Ref sig .tc := ⟨.hbm, 154, rfl⟩
abbrev main_while0b_v89 : Ref sig .tc := ⟨.hbm, 155, rfl⟩
abbrev main_while0b_v90 : Ref sig .tc := ⟨.hbm, 156, rfl⟩
abbrev main_while0b_v91 : Ref sig .tc := ⟨.hbm, 157, rfl⟩
abbrev main_while0b_call8_v0 : Ref sig .tc := ⟨.hbm, 158, rfl⟩
abbrev main_while0b_v92 : Ref sig .tc := ⟨.hbm, 159, rfl⟩
abbrev main_while0b_c_34 : Ref sig .tc := ⟨.hbm, 160, rfl⟩
abbrev main_while0b_v93 : Ref sig .tc := ⟨.hbm, 161, rfl⟩
abbrev main_while0b_c_35 : Ref sig .tc := ⟨.hbm, 162, rfl⟩
abbrev main_while0b_v94 : Ref sig .tc := ⟨.hbm, 163, rfl⟩
abbrev main_while0b_v95 : Ref sig .tc := ⟨.hbm, 164, rfl⟩
abbrev main_while0b_c_36 : Ref sig .tc := ⟨.hbm, 165, rfl⟩
abbrev main_while0b_c_37 : Ref sig .tc := ⟨.hbm, 166, rfl⟩
abbrev main_while0b_v96 : Ref sig .tc := ⟨.hbm, 167, rfl⟩
abbrev main_while0b_c_38 : Ref sig .tc := ⟨.hbm, 168, rfl⟩
abbrev main_while0b_c_39 : Ref sig .tc := ⟨.hbm, 169, rfl⟩
abbrev main_while0b_v97 : Ref sig .tc := ⟨.hbm, 170, rfl⟩
abbrev main_while0b_c_40 : Ref sig .tc := ⟨.hbm, 171, rfl⟩
abbrev main_while0b_v98 : Ref sig .tc := ⟨.hbm, 172, rfl⟩
abbrev main_while0b_v99 : Ref sig .tc := ⟨.hbm, 173, rfl⟩
abbrev main_while0b_v100 : Ref sig .tc := ⟨.hbm, 174, rfl⟩
abbrev main_while0b_c_41 : Ref sig .tc := ⟨.hbm, 175, rfl⟩
abbrev main_while0b_v101 : Ref sig .tc := ⟨.hbm, 176, rfl⟩
abbrev main_while0b_v102 : Ref sig .tc := ⟨.hbm, 177, rfl⟩
abbrev main_while0b_v103 : Ref sig .tc := ⟨.hbm, 178, rfl⟩
abbrev main_while0b_v104 : Ref sig .tc := ⟨.hbm, 179, rfl⟩
abbrev main_while0b_v105 : Ref sig .tc := ⟨.hbm, 180, rfl⟩
abbrev main_while0b_v106 : Ref sig .tc := ⟨.hbm, 181, rfl⟩
abbrev main_while0b_v107 : Ref sig .tc := ⟨.hbm, 182, rfl⟩
abbrev main_while0b_v108 : Ref sig .tc := ⟨.hbm, 183, rfl⟩
abbrev main_while0b_v109 : Ref sig .tc := ⟨.hbm, 184, rfl⟩
abbrev main_while0b_v110 : Ref sig .tc := ⟨.hbm, 185, rfl⟩
abbrev main_while0b_v111 : Ref sig .tc := ⟨.hbm, 186, rfl⟩
abbrev main_while0b_v112 : Ref sig .tc := ⟨.hbm, 187, rfl⟩
abbrev main_while0b_v113 : Ref sig .tc := ⟨.hbm, 188, rfl⟩
abbrev main_while0b_v114 : Ref sig .tc := ⟨.hbm, 189, rfl⟩
abbrev main_while0b_cst_42 : Ref sig .tc := ⟨.hbm, 190, rfl⟩
abbrev main_while0b_call9_v0 : Ref sig .tc := ⟨.hbm, 191, rfl⟩
abbrev main_while0b_call9_v1 : Ref sig .tc := ⟨.hbm, 192, rfl⟩
abbrev main_while0b_call9_v2 : Ref sig .tc := ⟨.hbm, 193, rfl⟩
abbrev main_while0b_v115 : Ref sig .tc := ⟨.hbm, 194, rfl⟩
abbrev main_while0b_v116 : Ref sig .tc := ⟨.hbm, 195, rfl⟩
abbrev main_while0b_v117 : Ref sig .tc := ⟨.hbm, 196, rfl⟩
abbrev main_while0b_cst_43 : Ref sig .tc := ⟨.hbm, 197, rfl⟩
abbrev main_while0b_v118 : Ref sig .tc := ⟨.hbm, 198, rfl⟩
abbrev main_while0b_v119 : Ref sig .tc := ⟨.hbm, 199, rfl⟩
abbrev main_while0b_v120 : Ref sig .tc := ⟨.hbm, 200, rfl⟩
abbrev main_while0b_v121 : Ref sig .tc := ⟨.hbm, 201, rfl⟩
abbrev main_while0b_v122 : Ref sig .tc := ⟨.hbm, 202, rfl⟩
abbrev main_while0b_v123 : Ref sig .tc := ⟨.hbm, 203, rfl⟩
abbrev main_while0b_cst_44 : Ref sig .tc := ⟨.hbm, 204, rfl⟩
abbrev main_while0b_call10_v0 : Ref sig .tc := ⟨.hbm, 205, rfl⟩
abbrev main_while0b_call10_v1 : Ref sig .tc := ⟨.hbm, 206, rfl⟩
abbrev main_while0b_v124 : Ref sig .tc := ⟨.hbm, 207, rfl⟩
abbrev main_while0b_v125 : Ref sig .tc := ⟨.hbm, 208, rfl⟩
abbrev main_while0b_v126 : Ref sig .tc := ⟨.hbm, 209, rfl⟩
abbrev main_while0b_v127 : Ref sig .tc := ⟨.hbm, 210, rfl⟩
abbrev main_while0b_v128 : Ref sig .tc := ⟨.hbm, 211, rfl⟩
abbrev main_while0b_v129 : Ref sig .tc := ⟨.hbm, 212, rfl⟩
abbrev main_while0b_v130 : Ref sig .tc := ⟨.hbm, 213, rfl⟩
abbrev main_while0b_v131 : Ref sig .tc := ⟨.hbm, 214, rfl⟩
abbrev main_while0b_v132 : Ref sig .tc := ⟨.hbm, 215, rfl⟩
abbrev main_while0b_v133 : Ref sig .tc := ⟨.hbm, 216, rfl⟩
abbrev main_while0b_v134 : Ref sig .tc := ⟨.hbm, 217, rfl⟩
abbrev main_while0b_v135 : Ref sig .tc := ⟨.hbm, 218, rfl⟩
abbrev main_while0b_v136 : Ref sig .tc := ⟨.hbm, 219, rfl⟩
abbrev main_while0b_c_45 : Ref sig .tc := ⟨.hbm, 220, rfl⟩
abbrev main_while0b_v137 : Ref sig .tc := ⟨.hbm, 221, rfl⟩
abbrev main_while0b_v138 : Ref sig .tc := ⟨.hbm, 222, rfl⟩
abbrev main_while0b_c_46 : Ref sig .tc := ⟨.hbm, 223, rfl⟩
abbrev main_while0b_v139 : Ref sig .tc := ⟨.hbm, 224, rfl⟩
abbrev main_while0b_v140 : Ref sig .tc := ⟨.hbm, 225, rfl⟩
abbrev main_while0b_c_47 : Ref sig .tc := ⟨.hbm, 226, rfl⟩
abbrev main_while0b_call11_v0 : Ref sig .tc := ⟨.hbm, 227, rfl⟩
abbrev main_while0b_call11_v1 : Ref sig .tc := ⟨.hbm, 228, rfl⟩
abbrev main_while0b_v141 : Ref sig .tc := ⟨.hbm, 229, rfl⟩
abbrev main_while0b_v142 : Ref sig .tc := ⟨.hbm, 230, rfl⟩
abbrev main_while0b_v143 : Ref sig .tc := ⟨.hbm, 231, rfl⟩
abbrev main_while0b_v144 : Ref sig .tc := ⟨.hbm, 232, rfl⟩
abbrev main_while0b_v145 : Ref sig .tc := ⟨.hbm, 233, rfl⟩
abbrev main_while0b_c_48 : Ref sig .tc := ⟨.hbm, 234, rfl⟩
abbrev main_while0b_v146 : Ref sig .tc := ⟨.hbm, 235, rfl⟩
abbrev main_while0b_v147 : Ref sig .tc := ⟨.hbm, 236, rfl⟩
abbrev main_while0b_call17_v0 : Ref sig .tc := ⟨.hbm, 237, rfl⟩
abbrev main_while0b_v148 : Ref sig .tc := ⟨.hbm, 238, rfl⟩
abbrev main_while0b_c_49 : Ref sig .tc := ⟨.hbm, 239, rfl⟩
abbrev main_while0b_v149 : Ref sig .tc := ⟨.hbm, 240, rfl⟩

abbrev nD : Nat := 1
abbrev τ : Topo := Topo.v7x

variable {F : FTy → Type} [FloatOps F]

abbrev main_while0_count : Scf.Loop 32 := ⟨0#32, 64#32, 1#32⟩
-- ==== Proof.Trip.lean ====
/- One trip of the kernel's loop, run over the contents its buffers hold. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import Idealize.ShloMosaic.Lib.VecWindow
public import Idealize.ShloMosaic.Lib.WritesUnit
public import Idealize.ShloMosaic.Lib.ValueIdx
public import Idealize.ShloMosaic.Lib.Pipeline.Value
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none

/-- The resource algebra of the run. -/
local notation "𝕄" => MT nD τ sig Unit (Elt F) ℕ (UR sig nD τ) ℕ

/-- Row `r` of a table. -/
def rowOf {α : Type} {N C : ℕ} (T : (⟨2, ![N, C]⟩ : Shape).Idx → α) (r : Fin N) : (⟨2, ![1, C]⟩ : Shape).Idx → α :=
  fun y => T (ix2 r (y 1))

/-- A table with row `r` replaced. -/
def setRow {α : Type} {N C : ℕ} (T : (⟨2, ![N, C]⟩ : Shape).Idx → α) (r : Fin N) (w : (⟨2, ![1, C]⟩ : Shape).Idx → α) :
    (⟨2, ![N, C]⟩ : Shape).Idx → α :=
  fun y => if (y 0).val = r.val then w (ix2 0 (y 1)) else T y

theorem setRow_congr {α : Type} {N C : ℕ} {T T' : (⟨2, ![N, C]⟩ : Shape).Idx → α} (r : Fin N) {w w' : (⟨2, ![1, C]⟩ : Shape).Idx → α}
    (hT : T = T') (hw : w = w') : setRow T r w = setRow T' r w' := by rw [hT, hw]

/-- A row below the table's height is within it. -/
theorem row_inb {N C : ℕ} (w : ℕ) {r : Fin N} (h : w = r.val) (a : Fin 2) :
    (![w, 0] : Fin 2 → ℕ) a + (⟨2, ![1, C]⟩ : Shape).size a ≤ (⟨2, ![N, C]⟩ : Shape).size a := by
  have := r.isLt
  match a with
  | ⟨0, _⟩ => show w + 1 ≤ N; omega
  | ⟨1, _⟩ => show 0 + C ≤ C; omega

section Congr
variable {a10 a9 a12 a13 w : F .f32} {i18 : IVec S8x128 32} {i20 : IVec S1x1024 32} {h : FVec F S8x128 .f32} {p q : BitVec 32}
  {x x' y y' u u' : Vec F S1x512 .f32} {E E' : Vec F S1x1024 .i32} {d d' : FVec F S1024x1 .f32} {g g' : FVec F S8x128 .f32}
  {T T' : Vec F S1024x512 .f32} {z z' : FVec F S1x1x512 .f32}

theorem pay11_congr (hE : E = E') : k0_pay11 i20 p q E = k0_pay11 (F := F) i20 p q E' := by rw [hE]
theorem pay12_congr (hE : E = E') : k0_pay12 a10 i20 h p q E = k0_pay12 a10 i20 h p q E' := by rw [hE]
theorem pay14_congr (hx : x = x') (hu : u = u') : k0_pay14 a9 x w u = k0_pay14 a9 x' w u' := by rw [hx, hu]
theorem pay15_congr (hx : x = x') (hy : y = y') (hu : u = u') : k0_pay15 a9 x y w u = k0_pay15 a9 x' y' w u' := by rw [hx, hy, hu]
theorem pay16_congr (hg : g = g') : k0_pay16 a12 a13 i18 h p g w = k0_pay16 a12 a13 i18 h p g' w := by rw [hg]
theorem pay17_congr (hx : x = x') (hd : d = d') (hT : T = T') : k0_pay17 x d T = k0_pay17 x' d' T' := by rw [hx, hd, hT]
theorem pay18_congr (hx : x = x') (hy : y = y') (hd : d = d') (hz : z = z') (hT : T = T') :
    k0_pay18 i18 x y p d z T = k0_pay18 i18 x' y' p d' z' T' := by rw [hx, hy, hd, hz, hT]

end Congr

section Rows
variable {κ : Kind} {sp : Space} {e : EltTy} {N C : ℕ} (v : View sig κ sp (⟨2, ![N, C]⟩ : Shape) e) (f : v.ty.Contents (Elt F))

/-- A load of one row reads that row. -/
theorem readAt_row {off : Fin 2 → ℕ} (r : Fin N) (hoff : off = ![r.val, 0])
    (inb : ∀ a : Fin 2, off a + (⟨2, ![1, C]⟩ : Shape).size a ≤ (⟨2, ![N, C]⟩ : Shape).size a) :
    v.readAt (Elt F) (Rect.unit (s := ⟨2, ![N, C]⟩) off (⟨2, ![1, C]⟩ : Shape).size inb).toLoadRect f = rowOf (v.read (Elt F) f) r := by
  subst hoff
  funext y
  unfold rowOf
  refine congrArg (v.read (Elt F) f) (funext fun a => ?_)
  match a with
  | ⟨0, _⟩ =>
    refine Fin.ext ?_
    show r.val + 1 * (y 0).val = r.val
    have : (y 0).val < 1 := (y 0).isLt
    omega
  | ⟨1, _⟩ =>
    refine Fin.ext ?_
    show 0 + 1 * (y 1).val = (y 1).val
    omega

/-- A store of one row replaces that row of what the earlier stores left. -/
theorem read_writes_row {off : Fin 2 → ℕ} (r : Fin N) (hoff : off = ![r.val, 0])
    (inb : ∀ a : Fin 2, off a + (⟨2, ![1, C]⟩ : Shape).size a ≤ (⟨2, ![N, C]⟩ : Shape).size a)
    (w : (⟨2, ![1, C]⟩ : Shape).Idx → Elt F e) (L : List (View.Piece (Elt F) (⟨2, ![N, C]⟩ : Shape) e)) :
    v.read (Elt F) (v.writes (Elt F) f ((⟨Rect.unit (s := ⟨2, ![N, C]⟩) off (⟨2, ![1, C]⟩ : Shape).size inb, w⟩ : View.Piece (Elt F) _ e) :: L))
      = setRow (v.read (Elt F) (v.writes (Elt F) f L)) r w := by
  funext y
  unfold setRow
  by_cases h : (y 0).val = r.val
  · rw [if_pos h]
    refine View.read_writes_cons_rows_of_mem v f inb w L y (ix2 0 (y 1)) hoff ?_ rfl
    show (y 0).val = r.val + 0
    rw [h, Nat.add_zero]
  · rw [if_neg h]
    refine View.read_writes_cons_rows_of_not_mem (W := 1) v f inb w L y hoff rfl ?_
    omega

end Rows

section
variable (c : Dev nD) (arg0 : Memref sig .tc .smem S5 .f32) (harg0 : arg0.IsWhole) (arg1 : Memref sig .tc .vmem S64x512 .f32) (harg1 : arg1.IsWhole) (arg2 : Memref sig .tc .vmem S1024x512 .f32) (harg2 : arg2.IsWhole) (arg3 : Memref sig .tc .vmem S8x128 .f32) (harg3 : arg3.IsWhole) (arg4 : Memref sig .tc .vmem S1024x1024 .i32) (harg4 : arg4.IsWhole) (arg5 : Memref sig .tc .vmem S1024x512 .f32) (harg5 : arg5.IsWhole) (arg6 : Memref sig .tc .vmem S8x128 .f32) (harg6 : arg6.IsWhole) (arg7 : Memref sig .tc .vmem S1x64 .f32) (harg7 : arg7.IsWhole) (arg8 : Memref sig .tc .vmem S1024x1024 .i32) (harg8 : arg8.IsWhole) (arg9 : Memref sig .tc .vmem S8x128 .f32) (harg9 : arg9.IsWhole) (v9 : Elt F .f32) (v10 : Elt F .f32) (v11 : Elt F .f32) (v12 : Elt F .f32) (v13 : Elt F .f32) (v18 : IVec S8x128 32) (v19 : FVec F S8x128 .f32) (v20 : IVec S1x1024 32) (v21 : IVec S1x64 32) (cst_17 : F .f32)

/-- What one trip touches: the samples, the nodes, their levels, the edges and the distances kept. -/
abbrev Bufs (f1 : Buf (Elt F) (arg1.view.loc (c : Thread nD τ))) (f5 : Buf (Elt F) (arg5.view.loc (c : Thread nD τ)))
    (f6 : Buf (Elt F) (arg6.view.loc (c : Thread nD τ))) (f8 : Buf (Elt F) (arg8.view.loc (c : Thread nD τ)))
    (f9 : Buf (Elt F) (arg9.view.loc (c : Thread nD τ))) : sProp 𝕄 :=
  iprop((arg1.view.loc (c : Thread nD τ) ↦[arg1.view.set]{fullShare} f1) ∗ (arg5.view.loc (c : Thread nD τ) ↦[arg5.view.set]{fullShare} f5)
    ∗ (arg6.view.loc (c : Thread nD τ) ↦[arg6.view.set]{fullShare} f6) ∗ (arg8.view.loc (c : Thread nD τ) ↦[arg8.view.set]{fullShare} f8)
    ∗ (arg9.view.loc (c : Thread nD τ) ↦[arg9.view.set]{fullShare} f9))

/-- The number of the nearest node, as the trip computes it. -/
abbrev wB (sz : BitVec 32) (d8 : FVec F S8x128 .f32) : BitVec 32 := Scalar.fptosi 32 (k0_pay23 v18 v19 cst_17 sz d8)

/-- The number of the second nearest node, as the trip computes it. -/
abbrev wS (sz : BitVec 32) (d8 : FVec F S8x128 .f32) : BitVec 32 :=
  Scalar.fptosi 32 (k0_pay28 v19 cst_17 (k0_pay19 v18 sz d8) (k0_pay24 v18 sz d8) (k0_pay25 v18 sz d8) (k0_pay26 v18 v19 cst_17 sz d8))

/-- Whether the nearest node answers weakly. -/
abbrev wP (sz : BitVec 32) (d8 : FVec F S8x128 .f32) : BitVec 1 :=
  Scalar.cmpf .olt (k0_pay29 (k0_pay21 v18 sz d8)) (Scalar.ofBits .f32 0x3EB33333#32)

/-- The levels as a trip loads them. -/
abbrev hLd (f6 : Buf (Elt F) (arg6.view.loc (c : Thread nD τ))) : FVec F S8x128 .f32 :=
  k0_pay20 (arg6.view.readAt (Elt F) (Rect.unit (s := S8x128) ![0, 0] S8x128.size inb_S8x128_S8x128_0_0).toLoadRect f6)

/-- Whether the nearest node's level is low. -/
abbrev wQ (sz : BitVec 32) (d8 h8 : FVec F S8x128 .f32) : BitVec 1 :=
  Scalar.cmpf .olt (k0_pay27 v19 h8 (k0_pay23 v18 v19 cst_17 sz d8)) (Scalar.ofBits .f32 0x3E99999A#32)

/-- The size after the trip. -/
abbrev szNext (sz : BitVec 32) (d8 h8 : FVec F S8x128 .f32) : BitVec 32 :=
  Scalar.select (Scalar.andi (Scalar.andi (wP v18 sz d8) (wQ v18 v19 cst_17 sz d8 h8)) (Scalar.cmpi .slt sz 1024#32)) (Scalar.addi sz 1#32) sz

/-- The level of the nearest node. -/
abbrev wBf (sz : BitVec 32) (d8 h8 : FVec F S8x128 .f32) : F .f32 :=
  k0_pay27 v19 h8 (k0_pay23 v18 v19 cst_17 sz d8)

/-- An inserting trip: the new node's row, its level, three rows of edges and the distances to the next sample. -/
theorem trip_insert (k : Fin k0_t1_loop.trips) (sz : BitVec 32) (acts : FVec F S1x64 .f32) (d8 : FVec F S8x128 .f32)
    (f1 : Buf (Elt F) (arg1.view.loc (c : Thread nD τ))) (f5 : Buf (Elt F) (arg5.view.loc (c : Thread nD τ)))
    (f6 : Buf (Elt F) (arg6.view.loc (c : Thread nD τ))) (f8 : Buf (Elt F) (arg8.view.loc (c : Thread nD τ)))
    (f9 : Buf (Elt F) (arg9.view.loc (c : Thread nD τ))) (rt rt' : Fin 64) (rb rs rn : Fin 1024)
    (ht : k0_off1 k = ![rt.val, 0]) (ht' : k0_off2 k = ![rt'.val, 0])
    (hb : (wB v18 v19 cst_17 sz d8).toNat = rb.val) (hs : (wS v18 v19 cst_17 sz d8).toNat = rs.val) (hn : sz.toNat = rn.val)
    (hchk : k0_chk1 sz (wB v18 v19 cst_17 sz d8) (wS v18 v19 cst_17 sz d8) (wP v18 sz d8) (wQ v18 v19 cst_17 sz d8 (hLd c arg6 f6)))
    (h1 : k0_cond1 sz (wP v18 sz d8) (wQ v18 v19 cst_17 sz d8 (hLd c arg6 f6)) = 1#1)
    (h2 : ¬ k0_cond2 sz (wP v18 sz d8) (wQ v18 v19 cst_17 sz d8 (hLd c arg6 f6)) = 1#1) :
    Bufs c arg1 arg5 arg6 arg8 arg9 f1 f5 f6 f8 f9 ⊢
      wp Idealize.ShloMosaic.frame (wpE (defs₀ (F := F)) 𝒱₀ (c : Thread nD τ) none) Set.univ
        (k0_t1_body (F := F) arg0 harg0 arg1 harg1 arg2 harg2 arg3 harg3 arg4 harg4 arg5 harg5 arg6 harg6 arg7 harg7 arg8 harg8 arg9 harg9 v9 v10 v11 v12 v13 v18 v19 v20 v21 cst_17 k (sz, acts, d8))
        (fun r => iprop(∃ g5 g6 g8 g9, Bufs c arg1 arg5 arg6 arg8 arg9 f1 g5 g6 g8 g9
          ∗ ⌜r = (szNext v18 v19 cst_17 sz d8 (hLd c arg6 f6), k0_pay32 v21 acts (Scf.iv 0#32 1#32 k.val) (k0_pay21 v18 sz d8), arg9.view.read (Elt F) g9)
            ∧ arg5.view.read (Elt F) g5 = setRow (arg5.view.read (Elt F) f5) rn
                (k0_pay2 (rowOf (arg1.view.read (Elt F) f1) rt) (rowOf (arg5.view.read (Elt F) f5) rb))
            ∧ arg6.view.read (Elt F) g6 = k0_pay3 v18 sz (hLd c arg6 f6)
            ∧ arg8.view.read (Elt F) g8 = setRow (setRow (setRow (arg8.view.read (Elt F) f8) rb
                  (k0_pay4 (F := F) v20 sz (wS v18 v19 cst_17 sz d8) (rowOf (arg8.view.read (Elt F) f8) rb))) rs
                  (k0_pay5 (F := F) v20 sz (wB v18 v19 cst_17 sz d8) (rowOf (setRow (arg8.view.read (Elt F) f8) rb
                    (k0_pay4 (F := F) v20 sz (wS v18 v19 cst_17 sz d8) (rowOf (arg8.view.read (Elt F) f8) rb))) rs))) rn
                  (k0_pay30 v19 v20 cst_17 (k0_pay19 v18 sz d8) (k0_pay24 v18 sz d8) (k0_pay25 v18 sz d8) (k0_pay26 v18 v19 cst_17 sz d8)
                    (k0_pay6 (wB v18 v19 cst_17 sz d8)))
            ∧ arg9.view.read (Elt F) g9 = k0_pay31 (rowOf (arg1.view.read (Elt F) f1) rt') (arg5.view.read (Elt F) g5)⌝)) := by
  unfold k0_t1_body
  dsimp only
  iintro ⟨H1, H5, H6, H8, H9⟩
  sl_exec_parts
  sl_unfold_words
  sl_step
  iexists _
  iexists _
  iexists _
  iexists _
  isplitl [H1 H5 H6 H8 H9]
  · isplitl [H1]
    · iexact H1
    isplitl [H5]
    · iexact H5
    isplitl [H6]
    · iexact H6
    isplitl [H8]
    · iexact H8
    iexact H9
  ipureintro
  have hbo : ![(wB v18 v19 cst_17 sz d8).toNat, 0] = ![rb.val, 0] := by rw [hb]
  have hso : ![(wS v18 v19 cst_17 sz d8).toNat, 0] = ![rs.val, 0] := by rw [hs]
  have hVb := readAt_row arg5.view f5 rb hbo (row_inb _ hb)
  have hEb := readAt_row arg8.view f8 rb hbo (row_inb _ hb)
  have hx := readAt_row arg1.view f1 rt ht (k0_off1_inb k)
  have hx' := readAt_row arg1.view f1 rt' ht' (k0_off2_inb k)
  have hno : ![sz.toNat, 0] = ![rn.val, 0] := by rw [hn]
  refine ⟨Prod.ext rfl (Prod.ext rfl ?_), ?_, ?_, ?_, ?_⟩
  · exact (View.readCov_full arg9.view _ _ _ _).trans (View.read_writes_full arg9.view f9 _ _ _).symm
  · refine (read_writes_row arg5.view f5 rn hno _ _ _).trans (setRow_congr rn rfl ?_)
    exact congrArg₂ (k0_pay2 (F := F)) hx hVb
  · exact View.read_writes_full arg6.view f6 _ _ _
  · have hE1 := (read_writes_row arg8.view f8 rb hbo (row_inb _ hb)
      (k0_pay4 (F := F) v20 sz (wS v18 v19 cst_17 sz d8) (arg8.view.readAt (Elt F) (Rect.unit (s := S1024x1024) _ S1x1024.size (row_inb _ hb)).toLoadRect f8)) []).trans
      (setRow_congr rb rfl (congrArg (k0_pay4 (F := F) v20 sz (wS v18 v19 cst_17 sz d8)) hEb))
    refine (read_writes_row arg8.view f8 rn hno _ _ _).trans (setRow_congr rn ?_ rfl)
    refine (read_writes_row arg8.view f8 rs hso _ _ _).trans (setRow_congr rs hE1 ?_)
    refine congrArg (k0_pay5 (F := F) v20 sz (wB v18 v19 cst_17 sz d8)) ?_
    exact (readAt_row arg8.view _ rs hso _).trans (congrArg (rowOf · rs) hE1)
  · refine (View.read_writes_full arg9.view f9 _ _ _).trans ?_
    exact congrArg₂ (k0_pay31 (F := F)) hx' (View.readAt_full arg5.view _ _)

/-- An adapting trip: the nearest node and its neighbours move towards the sample, and the distances are kept up. -/
theorem trip_update (k : Fin k0_t1_loop.trips) (sz : BitVec 32) (acts : FVec F S1x64 .f32) (d8 : FVec F S8x128 .f32)
    (f1 : Buf (Elt F) (arg1.view.loc (c : Thread nD τ))) (f5 : Buf (Elt F) (arg5.view.loc (c : Thread nD τ)))
    (f6 : Buf (Elt F) (arg6.view.loc (c : Thread nD τ))) (f8 : Buf (Elt F) (arg8.view.loc (c : Thread nD τ)))
    (f9 : Buf (Elt F) (arg9.view.loc (c : Thread nD τ))) (rt rt' : Fin 64) (rb rs : Fin 1024)
    (ht : k0_off1 k = ![rt.val, 0]) (ht' : k0_off2 k = ![rt'.val, 0])
    (hb : (wB v18 v19 cst_17 sz d8).toNat = rb.val) (hs : (wS v18 v19 cst_17 sz d8).toNat = rs.val)
    (hchk : k0_chk1 sz (wB v18 v19 cst_17 sz d8) (wS v18 v19 cst_17 sz d8) (wP v18 sz d8) (wQ v18 v19 cst_17 sz d8 (hLd c arg6 f6)))
    (h1 : ¬ k0_cond1 sz (wP v18 sz d8) (wQ v18 v19 cst_17 sz d8 (hLd c arg6 f6)) = 1#1)
    (h2 : k0_cond2 sz (wP v18 sz d8) (wQ v18 v19 cst_17 sz d8 (hLd c arg6 f6)) = 1#1) :
    Bufs c arg1 arg5 arg6 arg8 arg9 f1 f5 f6 f8 f9 ⊢
      wp Idealize.ShloMosaic.frame (wpE (defs₀ (F := F)) 𝒱₀ (c : Thread nD τ) none) Set.univ
        (k0_t1_body (F := F) arg0 harg0 arg1 harg1 arg2 harg2 arg3 harg3 arg4 harg4 arg5 harg5 arg6 harg6 arg7 harg7 arg8 harg8 arg9 harg9 v9 v10 v11 v12 v13 v18 v19 v20 v21 cst_17 k (sz, acts, d8))
        (fun r => iprop(∃ g5 g6 g8 g9, Bufs c arg1 arg5 arg6 arg8 arg9 f1 g5 g6 g8 g9
          ∗ ⌜r = (szNext v18 v19 cst_17 sz d8 (hLd c arg6 f6), k0_pay32 v21 acts (Scf.iv 0#32 1#32 k.val) (k0_pay21 v18 sz d8), arg9.view.read (Elt F) g9)
            ∧ arg5.view.read (Elt F) g5 = setRow (k0_pay17 (rowOf (arg1.view.read (Elt F) f1) rt)
                (k0_pay12 v10 v20 (hLd c arg6 f6) (wB v18 v19 cst_17 sz d8) (wS v18 v19 cst_17 sz d8) (rowOf (arg8.view.read (Elt F) f8) rb)) (arg5.view.read (Elt F) f5)) rb
                (k0_pay14 v9 (rowOf (arg1.view.read (Elt F) f1) rt) (wBf v18 v19 cst_17 sz d8 (hLd c arg6 f6)) (rowOf (arg5.view.read (Elt F) f5) rb))
            ∧ arg6.view.read (Elt F) g6 = k0_pay16 v12 v13 v18 (hLd c arg6 f6) (wB v18 v19 cst_17 sz d8)
                (k0_pay11 v20 (wB v18 v19 cst_17 sz d8) (wS v18 v19 cst_17 sz d8) (rowOf (arg8.view.read (Elt F) f8) rb))
                (k0_pay13 v11 v13 (wBf v18 v19 cst_17 sz d8 (hLd c arg6 f6)))
            ∧ arg8.view.read (Elt F) g8 = setRow (setRow (arg8.view.read (Elt F) f8) rb
                  (k0_pay8 (F := F) v20 (wS v18 v19 cst_17 sz d8) (rowOf (arg8.view.read (Elt F) f8) rb))) rs
                  (k0_pay9 (F := F) v20 (wB v18 v19 cst_17 sz d8) (rowOf (setRow (arg8.view.read (Elt F) f8) rb
                    (k0_pay8 (F := F) v20 (wS v18 v19 cst_17 sz d8) (rowOf (arg8.view.read (Elt F) f8) rb))) rs))
            ∧ arg9.view.read (Elt F) g9 = k0_pay18 v18 (rowOf (arg1.view.read (Elt F) f1) rt) (rowOf (arg1.view.read (Elt F) f1) rt') (wB v18 v19 cst_17 sz d8)
                (k0_pay12 v10 v20 (hLd c arg6 f6) (wB v18 v19 cst_17 sz d8) (wS v18 v19 cst_17 sz d8) (rowOf (arg8.view.read (Elt F) f8) rb))
                (k0_pay15 v9 (rowOf (arg1.view.read (Elt F) f1) rt) (rowOf (arg1.view.read (Elt F) f1) rt') (wBf v18 v19 cst_17 sz d8 (hLd c arg6 f6)) (rowOf (arg5.view.read (Elt F) f5) rb))
                (arg5.view.read (Elt F) f5)⌝)) := by
  unfold k0_t1_body
  dsimp only
  iintro ⟨H1, H5, H6, H8, H9⟩
  sl_exec_parts
  sl_unfold_words
  sl_step
  iexists _
  iexists _
  iexists _
  iexists _
  isplitl [H1 H5 H6 H8 H9]
  · isplitl [H1]
    · iexact H1
    isplitl [H5]
    · iexact H5
    isplitl [H6]
    · iexact H6
    isplitl [H8]
    · iexact H8
    iexact H9
  ipureintro
  have hbo : ![(wB v18 v19 cst_17 sz d8).toNat, 0] = ![rb.val, 0] := by rw [hb]
  have hso : ![(wS v18 v19 cst_17 sz d8).toNat, 0] = ![rs.val, 0] := by rw [hs]
  have hVb := readAt_row arg5.view f5 rb hbo (row_inb _ hb)
  have hEb := readAt_row arg8.view f8 rb hbo (row_inb _ hb)
  have hx := readAt_row arg1.view f1 rt ht (k0_off1_inb k)
  have hx' := readAt_row arg1.view f1 rt' ht' (k0_off2_inb k)
  have hE1 := (read_writes_row arg8.view f8 rb hbo (row_inb _ hb)
    (k0_pay8 (F := F) v20 (wS v18 v19 cst_17 sz d8) (arg8.view.readAt (Elt F) (Rect.unit (s := S1024x1024) _ S1x1024.size (row_inb _ hb)).toLoadRect f8)) []).trans
    (setRow_congr rb rfl (congrArg (k0_pay8 (F := F) v20 (wS v18 v19 cst_17 sz d8)) hEb))
  refine ⟨Prod.ext rfl (Prod.ext rfl ?_), ?_, ?_, ?_, ?_⟩
  · refine (View.readCov_full arg9.view _ _ _ _).trans ?_
    exact Eq.symm (by exact View.read_writes_full arg9.view _ _ _ _)
  · refine (read_writes_row arg5.view _ rb hbo _ _ _).trans (setRow_congr rb ?_ ?_)
    · refine (View.read_writes_full arg5.view _ _ _ _).trans ?_
      exact pay17_congr hx (pay12_congr hEb) (View.readAt_full arg5.view _ _)
    · exact pay14_congr hx hVb
  · refine (View.read_writes_full arg6.view _ _ _ _).trans ?_
    exact pay16_congr (pay11_congr hEb)
  · refine (read_writes_row arg8.view f8 rs hso _ _ _).trans (setRow_congr rs hE1 ?_)
    refine congrArg (k0_pay9 (F := F) v20 (wB v18 v19 cst_17 sz d8)) ?_
    exact (readAt_row arg8.view _ rs hso _).trans (congrArg (rowOf · rs) hE1)
  · refine (View.read_writes_full arg9.view _ _ _ _).trans ?_
    exact pay18_congr hx hx' (pay12_congr hEb) (pay15_congr hx hx' hVb) (View.readAt_full arg5.view _ _)

end
end Cert.Proof.KernelIdeal
-- ==== Proof.Model.lean ====
/- The network as plain mathematics: its state, the two nearest nodes, and what one sample makes of it. -/
module

public import Idealize.ShloMosaic.PureOps.Ideal

@[expose] public section

noncomputable section

namespace Cert.Proof.Model

open Idealize.ShloMosaic

/-! ## The two least entries of a table of 1024 -/

/-- `b` is the first place of the least entry. -/
def First (f : Fin 1024 → EReal) (b : Fin 1024) : Prop := ∀ j, f b ≤ f j ∧ (f j = f b → b ≤ j)

/-- `s` is the first place of the least entry away from `b`. -/
def Second (f : Fin 1024 → EReal) (b s : Fin 1024) : Prop := s ≠ b ∧ ∀ j, j ≠ b → f s ≤ f j ∧ (f j = f s → s ≤ j)

theorem exists_least (f : Fin 1024 → EReal) (P : Finset (Fin 1024)) (hP : P.Nonempty) :
    ∃ b ∈ P, ∀ j ∈ P, f b ≤ f j ∧ (f j = f b → b ≤ j) := by
  obtain ⟨a, ha, hmin⟩ := P.exists_min_image f hP
  have hQ : (P.filter fun i => f i = f a).Nonempty := ⟨a, by simp [ha]⟩
  refine ⟨(P.filter fun i => f i = f a).min' hQ, ?_, fun j hj => ?_⟩
  · exact (Finset.mem_filter.mp (Finset.min'_mem _ hQ)).1
  · have hb := (Finset.mem_filter.mp (Finset.min'_mem _ hQ)).2
    rw [hb]
    exact ⟨hmin j hj, fun e => Finset.min'_le _ _ (Finset.mem_filter.mpr ⟨hj, e⟩)⟩

theorem exists_first (f : Fin 1024 → EReal) : ∃ b, First f b := by
  obtain ⟨b, -, h⟩ := exists_least f Finset.univ ⟨0, Finset.mem_univ _⟩
  exact ⟨b, fun j => h j (Finset.mem_univ _)⟩

theorem exists_second (f : Fin 1024 → EReal) (b : Fin 1024) : ∃ s, Second f b s := by
  have hne : (Finset.univ.filter fun i : Fin 1024 => i ≠ b).Nonempty := by
    by_cases h : b = 0
    · exact ⟨1, by simp [h]⟩
    · exact ⟨0, by simp [Ne.symm h]⟩
  obtain ⟨s, hs, h⟩ := exists_least f _ hne
  exact ⟨s, (Finset.mem_filter.mp hs).2, fun j hj => h j (Finset.mem_filter.mpr ⟨Finset.mem_univ _, hj⟩)⟩

/-- The first place of the least entry. -/
def first (f : Fin 1024 → EReal) : Fin 1024 := (exists_first f).choose
/-- The first place of the least entry away from it. -/
def second (f : Fin 1024 → EReal) : Fin 1024 := (exists_second f (first f)).choose

theorem first_spec (f : Fin 1024 → EReal) : First f (first f) := (exists_first f).choose_spec
theorem second_spec (f : Fin 1024 → EReal) : Second f (first f) (second f) := (exists_second f (first f)).choose_spec

theorem First.eq {f : Fin 1024 → EReal} {b : Fin 1024} (h : First f b) : b = first f := by
  have hf := first_spec f
  have e : f b = f (first f) := le_antisymm (h _).1 (hf _).1
  exact le_antisymm ((h _).2 e.symm) ((hf _).2 e)

theorem Second.eq {f : Fin 1024 → EReal} {s : Fin 1024} (h : Second f (first f) s) : s = second f := by
  have hf := second_spec f
  have e : f s = f (second f) := le_antisymm (h.2 _ hf.1).1 (hf.2 _ h.1).1
  exact le_antisymm ((h.2 _ hf.1).2 e.symm) ((hf.2 _ h.1).2 e)

/-! ## The state and a step -/

/-- Nodes, their levels, the live edges, and how many nodes there are. -/
structure St where
  V : Fin 1024 → Fin 512 → EReal
  h : Fin 1024 → EReal
  L : Fin 1024 → Fin 1024 → Prop
  n : ℕ

/-- The step sizes and the level's constants. -/
structure Par where
  eb : EReal
  en : EReal
  tb : EReal
  tn : EReal
  ka : EReal

/-- The constant added under the root. -/
abbrev cEps : EReal := Ideal.ofBits .f32 0x2B8CBCCC#32
/-- The threshold of the activation. -/
abbrev cA : EReal := Ideal.ofBits .f32 0x3EB33333#32
/-- The threshold of the level. -/
abbrev cH : EReal := Ideal.ofBits .f32 0x3E99999A#32
/-- One. -/
abbrev cOne : EReal := Ideal.ofBits .f32 0x3F800000#32
/-- One half. -/
abbrev cHalf : EReal := Ideal.ofBits .f32 0x3F000000#32

/-- Squared distance of a sample to every node. -/
def sq (V : Fin 1024 → Fin 512 → EReal) (x : Fin 512 → EReal) (i : Fin 1024) : EReal := ∑ k, (x k - V i k) * (x k - V i k)

/-- From squared distances to distances, nodes past the size at infinity. -/
def root (n : ℕ) (d : Fin 1024 → EReal) (i : Fin 1024) : EReal := if i.val < n then Ideal.sqrt (d i + cEps) else ⊤

variable (p : Par) (s : St) (x : Fin 512 → EReal)

/-- Distances of the sample. -/
def D : Fin 1024 → EReal := root s.n (sq s.V x)
/-- The nearest node. -/
def B : Fin 1024 := first (D s x)
/-- The second nearest node. -/
def C : Fin 1024 := second (D s x)
/-- The activation. -/
def act : EReal := Ideal.exp (-(D s x (B s x)))
/-- Whether a node is inserted. -/
def Ins : Prop := act s x < cA ∧ s.h (B s x) < cH ∧ s.n < 1024
/-- The edge between the two nearest nodes. -/
def Both (i j : Fin 1024) : Prop := (i = B s x ∧ j = C s x) ∨ (i = C s x ∧ j = B s x)
/-- The nearest node's neighbours. -/
def Nb (i : Fin 1024) : Prop := (i = C s x ∨ s.L (B s x) i) ∧ i ≠ B s x

open Classical in
/-- The state after inserting. -/
def ins : St where
  V i k := if i.val = s.n then (x k + s.V (B s x) k) * cHalf else s.V i k
  h i := if i.val = s.n then cOne else s.h i
  L i j := (i.val = s.n ∧ (j = B s x ∨ j = C s x)) ∨ (j.val = s.n ∧ (i = B s x ∨ i = C s x)) ∨ (i.val ≠ s.n ∧ ¬ Both s x i j ∧ s.L i j)
  n := s.n + 1

open Classical in
/-- The state after adapting. -/
def upd : St where
  V i k := if i = B s x then s.V (B s x) k + p.eb * s.h (B s x) * (x k - s.V (B s x) k)
    else if Nb s x i then s.V i k + p.en * s.h i * (x k - s.V i k) else s.V i k
  h i := if i = B s x then s.h (B s x) + p.tb * p.ka * (cOne - s.h (B s x)) - p.tb
    else if Nb s x i then s.h i + (p.tn * p.ka * (cOne - s.h i) - p.tn) else s.h i
  L i j := Both s x i j ∨ s.L i j
  n := s.n

open Classical in
/-- One step. -/
def next : St := if Ins s x then ins s x else upd p s x

/-- What every step keeps at step `t`: the size's range, and edges symmetric and between existing nodes. -/
structure Ok (t : ℕ) : Prop where
  lo : 960 ≤ s.n
  hi : s.n ≤ 960 + t
  sym : ∀ i j, s.L i j → s.L j i
  dead : ∀ i j, s.L i j → i.val < s.n ∧ j.val < s.n

section Facts
variable {p s x} {t : ℕ}

section Lo
variable (hlo : 960 ≤ s.n)
include hlo

theorem B_lt : (B s x).val < s.n := by
  by_contra hge
  have hb := first_spec (D s x)
  have e : D s x (B s x) = ⊤ := by unfold D root; rw [if_neg hge]
  have h0 : D s x 0 = D s x (B s x) := le_antisymm (by rw [e]; exact le_top) (hb 0).1
  have h1 : (B s x) ≤ 0 := (hb 0).2 h0
  have h2 : (B s x).val ≤ 0 := h1
  omega

theorem C_lt : (C s x).val < s.n := by
  by_contra hge
  have hc := second_spec (D s x)
  have e : D s x (C s x) = ⊤ := by unfold D root; rw [if_neg hge]
  have key : ∀ j : Fin 1024, j ≠ B s x → (C s x).val ≤ j.val := fun j hj =>
    (hc.2 j hj).2 (le_antisymm (by show D s x j ≤ D s x (C s x); rw [e]; exact le_top) (hc.2 j hj).1)
  by_cases h : B s x = 0
  · have h1 := key 1 (by rw [h]; decide)
    have : (1 : Fin 1024).val = 1 := rfl
    omega
  · have h1 := key 0 (Ne.symm h)
    have : (0 : Fin 1024).val = 0 := rfl
    omega

end Lo

theorem C_ne_B : C s x ≠ B s x := (second_spec (D s x)).1

theorem next_size : (next p s x).n = s.n ∨ (next p s x).n = s.n + 1 := by
  unfold next
  split
  · exact .inr rfl
  · exact .inl rfl

variable (hok : Ok s t)
include hok

theorem ok_ins : Ok (ins s x) (t + 1) where
  lo := by show 960 ≤ s.n + 1; have := hok.lo; omega
  hi := by show s.n + 1 ≤ _; have := hok.hi; omega
  sym i j h := by
    rcases h with h | h | ⟨-, h, h'⟩
    · exact .inr (.inl h)
    · exact .inl h
    · refine .inr (.inr ⟨(hok.dead _ _ h').2.ne, fun hb => h ?_, hok.sym _ _ h'⟩)
      rcases hb with ⟨a, b⟩ | ⟨a, b⟩
      · exact .inr ⟨b, a⟩
      · exact .inl ⟨b, a⟩
  dead i j h := by
    show i.val < s.n + 1 ∧ j.val < s.n + 1
    have hB := B_lt (x := x) hok.lo
    have hC := C_lt (x := x) hok.lo
    rcases h with ⟨h, h'⟩ | ⟨h, h'⟩ | ⟨-, -, h⟩
    · rcases h' with rfl | rfl <;> omega
    · rcases h' with rfl | rfl <;> omega
    · have := hok.dead _ _ h
      omega

theorem ok_upd : Ok (upd p s x) (t + 1) where
  lo := hok.lo
  hi := by show s.n ≤ _; have := hok.hi; omega
  sym i j h := by
    rcases h with h | h
    · rcases h with ⟨a, b⟩ | ⟨a, b⟩
      · exact .inl (.inr ⟨b, a⟩)
      · exact .inl (.inl ⟨b, a⟩)
    · exact .inr (hok.sym _ _ h)
  dead i j h := by
    show i.val < s.n ∧ j.val < s.n
    have hB := B_lt (x := x) hok.lo
    have hC := C_lt (x := x) hok.lo
    rcases h with h | h
    · rcases h with ⟨rfl, rfl⟩ | ⟨rfl, rfl⟩ <;> exact ⟨by assumption, by assumption⟩
    · exact hok.dead _ _ h

theorem ok_next : Ok (next p s x) (t + 1) := by
  unfold next
  split
  · exact ok_ins hok
  · exact ok_upd hok

end Facts

/-- The samples, the last one standing for every later place. -/
def at64 (X : Fin 64 → Fin 512 → EReal) (t : ℕ) : Fin 512 → EReal := X ⟨min t 63, by omega⟩

/-- The state after `t` samples. -/
def states (p : Par) (X : Fin 64 → Fin 512 → EReal) (s : St) : ℕ → St
  | 0 => s
  | t + 1 => next p (states p X s t) (at64 X t)

/-- The activation of sample `t`. -/
def acts (p : Par) (X : Fin 64 → Fin 512 → EReal) (s : St) (t : ℕ) : EReal := act (states p X s t) (at64 X t)

theorem size_states {p : Par} {X : Fin 64 → Fin 512 → EReal} {s : St} (h : s.n = 960) : ∀ t, 960 ≤ (states p X s t).n ∧ (states p X s t).n ≤ 960 + t
  | 0 => by show 960 ≤ s.n ∧ s.n ≤ 960 + 0; omega
  | t + 1 => by
    have ih := size_states (p := p) (X := X) h t
    have := next_size (p := p) (s := states p X s t) (x := at64 X t)
    show 960 ≤ (next p (states p X s t) (at64 X t)).n ∧ (next p (states p X s t) (at64 X t)).n ≤ 960 + (t + 1)
    omega

theorem ok_states {p : Par} {X : Fin 64 → Fin 512 → EReal} {s : St} (h : Ok s 0) : ∀ t, Ok (states p X s t) t
  | 0 => h
  | t + 1 => ok_next (ok_states h t)

end Cert.Proof.Model
end
-- ==== Proof.Order.lean ====
/- Reductions over an 8 by 128 register read as reductions over 1024 places, and small words. -/
module

public import proofs.«01_k».proof.Proof.Model
public import Idealize.ShloMosaic.Lib.Pointwise
public import Mathlib.Data.Finset.Fold

@[expose] public section

noncomputable section

namespace Cert.Proof.Order

open Idealize.ShloMosaic

/-- The place of row `r`, lane `l`. -/
def fl (r : Fin 8) (l : Fin 128) : Fin 1024 := ⟨r.val * 128 + l.val, by omega⟩

theorem fl_val (r : Fin 8) (l : Fin 128) : (fl r l).val = r.val * 128 + l.val := rfl

/-- A place's row and lane. -/
def un (i : Fin 1024) : Fin 8 × Fin 128 := (⟨i.val / 128, by omega⟩, ⟨i.val % 128, by omega⟩)

theorem fl_un (i : Fin 1024) : fl (un i).1 (un i).2 = i := Fin.ext (by show i.val / 128 * 128 + i.val % 128 = i.val; omega)

/-- The two numberings agree. -/
def flEquiv : Fin 8 × Fin 128 ≃ Fin 1024 where
  toFun x := fl x.1 x.2
  invFun := un
  left_inv x := by
    obtain ⟨r, l⟩ := x
    refine Prod.ext (Fin.ext ?_) (Fin.ext ?_)
    · show (r.val * 128 + l.val) / 128 = r.val; omega
    · show (r.val * 128 + l.val) % 128 = l.val; omega
  right_inv := fl_un

/-- A minimum over the register is the least entry. -/
theorem fold_min_fl {g : Fin 8 × Fin 128 → EReal} {f : Fin 1024 → EReal} (b : Fin 1024) (hg : ∀ x : Fin 8 × Fin 128, g x = f (fl x.1 x.2))
    (hb : ∀ j, f b ≤ f j) : Finset.fold min (⊤ : EReal) g Finset.univ = f b := by
  refine le_antisymm ?_ ?_
  · refine (Finset.fold_min_le _).mpr (.inr ⟨un b, Finset.mem_univ _, ?_⟩)
    rw [hg, fl_un]
  · refine (Finset.le_fold_min _).mpr ⟨le_top, fun x _ => ?_⟩
    rw [hg]
    exact hb _

/-- A sum over the register is the sum over the places. -/
theorem sum_fl {g : Fin 8 × Fin 128 → EReal} {f : Fin 1024 → EReal} (hg : ∀ x : Fin 8 × Fin 128, g x = f (fl x.1 x.2)) :
    ∑ x, g x = ∑ i, f i := Fintype.sum_equiv flEquiv _ _ hg

theorem sum2_fl {g : Fin 8 → Fin 128 → EReal} {f : Fin 1024 → EReal} (hg : ∀ r l, g r l = f (fl r l)) :
    ∑ r, ∑ l, g r l = ∑ i, f i := by
  exact (Fintype.sum_prod_type (fun x : Fin 8 × Fin 128 => g x.1 x.2)).symm.trans (sum_fl fun x => hg x.1 x.2)

theorem top_word : Ideal.ofBits .f32 0x7F800000#32 = ⊤ := by
  simp [Ideal.ofBits, Ideal.ieee]

theorem zero_word : Ideal.ofBits .f32 0x00000000#32 = 0 := by
  simp [Ideal.ofBits, Ideal.ieee]

theorem big_word : Ideal.ofBits .f32 0x44800000#32 = ((1024 : ℝ) : EReal) := by
  simp [Ideal.ofBits, Ideal.ieee]
  rw [← EReal.coe_mul]
  norm_num

theorem two_word : Ideal.ofBits .f32 0x40000000#32 = ((2 : ℝ) : EReal) := by
  simp [Ideal.ofBits, Ideal.ieee]
  rw [← EReal.coe_mul]
  norm_num

/-- A place as a float. -/
def num (i : Fin 1024) : EReal := ((i.val : ℝ) : EReal)

theorem num_le {i j : Fin 1024} : num i ≤ num j ↔ i ≤ j := by
  unfold num
  rw [EReal.coe_le_coe_iff, Nat.cast_le]
  exact Iff.rfl

theorem num_inj {i j : Fin 1024} : num i = num j ↔ i = j := by
  rw [le_antisymm_iff, num_le, num_le, ← le_antisymm_iff]

theorem num_le_big (i : Fin 1024) : num i ≤ ((1024 : ℝ) : EReal) := by
  unfold num
  rw [EReal.coe_le_coe_iff]
  exact_mod_cast i.isLt.le

/-- A place taken back from its float. -/
theorem fptosi_num (i : Fin 1024) : Ideal.fptosi 32 (num i) = BitVec.ofNat 32 i.val := by
  unfold Ideal.fptosi num
  rw [Ideal.toIntClamped_coe, if_pos (by positivity), Int.floor_natCast]
  have h : max (-((2 ^ (32 - 1) : ℕ) : ℤ)) (min (((2 ^ (32 - 1) : ℕ) : ℤ) - 1) (i.val : ℤ)) = (i.val : ℤ) := by
    have := i.isLt
    norm_num
    omega
  rw [h, BitVec.ofInt_natCast]

theorem toInt_small {n : ℕ} (h : n < 2 ^ 31) : (BitVec.ofNat 32 n).toInt = n := by
  rw [BitVec.toInt_eq_toNat_of_lt (by rw [BitVec.toNat_ofNat]; omega), BitVec.toNat_ofNat]
  omega

theorem slt_small {a b : ℕ} (ha : a < 2 ^ 31) (hb : b < 2 ^ 31) :
    IntOp.cmpi .slt (BitVec.ofNat 32 a) (BitVec.ofNat 32 b) = 1#1 ↔ a < b := by
  have : IntOp.cmpi .slt (BitVec.ofNat 32 a) (BitVec.ofNat 32 b) = BitVec.ofBool ((BitVec.ofNat 32 a).slt (BitVec.ofNat 32 b)) := rfl
  rw [this, BitVec.slt_eq_decide, toInt_small ha, toInt_small hb]
  by_cases h : a < b
  · simp [h]
  · simp [h]

theorem eq_small {a b : ℕ} (ha : a < 2 ^ 31) (hb : b < 2 ^ 31) :
    IntOp.cmpi .eq (BitVec.ofNat 32 a) (BitVec.ofNat 32 b) = 1#1 ↔ a = b := by
  have : IntOp.cmpi .eq (BitVec.ofNat 32 a) (BitVec.ofNat 32 b) = BitVec.ofBool (BitVec.ofNat 32 a == BitVec.ofNat 32 b) := rfl
  rw [this]
  have e : BitVec.ofNat 32 a = BitVec.ofNat 32 b ↔ a = b := by
    refine ⟨fun h => ?_, fun h => by rw [h]⟩
    have := congrArg BitVec.toInt h
    rw [toInt_small ha, toInt_small hb] at this
    exact_mod_cast this
  by_cases h : a = b
  · simp [h]
  · have h' : (BitVec.ofNat 32 a == BitVec.ofNat 32 b) = false := by
      rw [beq_eq_false_iff_ne]
      exact fun q => h (e.mp q)
    rw [h']
    simp [h]

theorem ne_small {a b : ℕ} (ha : a < 2 ^ 31) (hb : b < 2 ^ 31) :
    IntOp.cmpi .ne (BitVec.ofNat 32 a) (BitVec.ofNat 32 b) = 1#1 ↔ a ≠ b := by
  have h1 := eq_small ha hb
  have : IntOp.cmpi .ne (BitVec.ofNat 32 a) (BitVec.ofNat 32 b) = ~~~ IntOp.cmpi .eq (BitVec.ofNat 32 a) (BitVec.ofNat 32 b) := by
    show BitVec.ofBool _ = ~~~ BitVec.ofBool _
    show BitVec.ofBool (! (BitVec.ofNat 32 a == BitVec.ofNat 32 b)) = ~~~ BitVec.ofBool (BitVec.ofNat 32 a == BitVec.ofNat 32 b)
    cases BitVec.ofNat 32 a == BitVec.ofNat 32 b <;> rfl
  rw [this, Ne, ← h1]
  generalize IntOp.cmpi .eq (BitVec.ofNat 32 a) (BitVec.ofNat 32 b) = c
  revert c
  decide

theorem andi_one {c d : BitVec 1} : IntOp.andi c d = 1#1 ↔ c = 1#1 ∧ d = 1#1 := by revert c d; decide
theorem ori_one {c d : BitVec 1} : IntOp.ori c d = 1#1 ↔ c = 1#1 ∨ d = 1#1 := by revert c d; decide

/-- A bit widened and turned into a float. -/
theorem sitofp_bit (c : BitVec 1) : (FloatOps.sitofp (F := Ideal) .f32 (c.setWidth 32) : EReal) = if c = 1#1 then (1 : EReal) else 0 := by
  have h : ∀ c : BitVec 1, (c.setWidth 32).toInt = if c = 1#1 then 1 else 0 := by decide
  show (((c.setWidth 32).toInt : ℝ) : EReal) = _
  rw [h c]
  split <;> simp

theorem olt_one {x y : EReal} : Ideal.cmp .olt x y = 1#1 ↔ x < y := by
  by_cases h : x < y <;> simp [Ideal.cmp, h]
theorem oeq_one {x y : EReal} : Ideal.cmp .oeq x y = 1#1 ↔ x = y := by
  by_cases h : x = y <;> simp [Ideal.cmp, h]
theorem oge_one {x y : EReal} : Ideal.cmp .oge x y = 1#1 ↔ y ≤ x := by
  by_cases h : y ≤ x <;> simp [Ideal.cmp, h]

end Cert.Proof.Order
end
-- ==== Proof.Pick.lean ====
/- How the two nearest nodes are found by minima over masked place numbers. -/
module

public import proofs.«01_k».proof.Proof.Order

@[expose] public section

noncomputable section

namespace Cert.Proof.Pick

open Idealize.ShloMosaic Cert.Proof.Model Cert.Proof.Order

/-- The number past every place. -/
abbrev big : EReal := ((1024 : ℝ) : EReal)

variable (f : Fin 1024 → EReal)

open Classical in
/-- Place numbers where the least entry stands. -/
def im (i : Fin 1024) : EReal := if f i = f (first f) then num i else big

open Classical in
/-- How many places hold the least entry. -/
def cnt : EReal := ∑ i, if f i = f (first f) then (1 : EReal) else 0

open Classical in
/-- The table with its least entries lifted to infinity. -/
def lifted (i : Fin 1024) : EReal := if f i = f (first f) then ⊤ else f i

open Classical in
/-- Place numbers of the least entry, the first place masked. -/
def im2 (i : Fin 1024) : EReal := if im f i = num (first f) then big else im f i

theorem least_min (j : Fin 1024) : f (first f) ≤ f j := (first_spec f j).1

theorem im_first : im f (first f) = num (first f) := by unfold im; rw [if_pos rfl]

theorem im_min (j : Fin 1024) : im f (first f) ≤ im f j := by
  rw [im_first]
  unfold im
  split
  · rename_i h
    exact num_le.mpr ((first_spec f j).2 h)
  · exact num_le_big _

theorem im2_min (hc : f (second f) = f (first f)) (j : Fin 1024) : im2 f (second f) = num (second f) ∧ im2 f (second f) ≤ im2 f j := by
  have hs := second_spec f
  have e : im2 f (second f) = num (second f) := by
    have h1 : im f (second f) = num (second f) := by unfold im; rw [if_pos hc]
    unfold im2
    rw [h1, if_neg (fun h => hs.1 (num_inj.mp h))]
  refine ⟨e, ?_⟩
  rw [e]
  unfold im2
  split
  · exact num_le_big _
  · rename_i hne
    by_cases hj : f j = f (first f)
    · have h1 : im f j = num j := by unfold im; rw [if_pos hj]
      rw [h1] at hne ⊢
      have hjb : j ≠ first f := fun h => hne (by rw [h])
      exact num_le.mpr ((hs.2 j hjb).2 (hj.trans hc.symm))
    · have h1 : im f j = big := by unfold im; rw [if_neg hj]
      rw [h1]
      exact num_le_big _

theorem cnt_two (hc : f (second f) = f (first f)) : ((2 : ℝ) : EReal) ≤ cnt f := by
  classical
  have hs := second_spec f
  unfold cnt
  have h := Finset.sum_le_sum_of_subset_of_nonneg (s := {first f, second f}) (t := Finset.univ)
    (f := fun i : Fin 1024 => if f i = f (first f) then (1 : EReal) else 0) (Finset.subset_univ _)
    (fun i _ _ => by split <;> simp)
  rw [Finset.sum_pair (Ne.symm hs.1)] at h
  rw [if_pos rfl, if_pos hc] at h
  refine le_trans (le_of_eq ?_) h
  show ((2 : ℝ) : EReal) = ((1 : ℝ) : EReal) + ((1 : ℝ) : EReal)
  rw [← EReal.coe_add]
  norm_num

theorem cnt_one (hc : f (second f) ≠ f (first f)) : ¬ ((2 : ℝ) : EReal) ≤ cnt f := by
  classical
  have hs := second_spec f
  have e : cnt f = 1 := by
    unfold cnt
    rw [Finset.sum_eq_single (first f)]
    · rw [if_pos rfl]
    · intro j _ hj
      rw [if_neg]
      intro h
      refine hc (le_antisymm ?_ (least_min f _))
      rw [← h]
      exact (hs.2 j hj).1
    · intro h
      exact absurd (Finset.mem_univ _) h
  rw [e, not_le]
  have : ((1 : ℝ) : EReal) < ((2 : ℝ) : EReal) := by
    rw [EReal.coe_lt_coe_iff]; norm_num
  simpa using this

theorem lifted_min (hc : f (second f) ≠ f (first f)) (j : Fin 1024) : lifted f (second f) = f (second f) ∧ lifted f (second f) ≤ lifted f j := by
  have hs := second_spec f
  have e : lifted f (second f) = f (second f) := by unfold lifted; rw [if_neg hc]
  refine ⟨e, ?_⟩
  rw [e]
  unfold lifted
  split
  · exact le_top
  · rename_i h
    exact (hs.2 j (fun hj => h (by rw [hj]))).1

open Classical in
/-- Place numbers where the second entry stands. -/
def is (i : Fin 1024) : EReal := if f i = f (second f) then num i else big

theorem is_min (hc : f (second f) ≠ f (first f)) (j : Fin 1024) : is f (second f) = num (second f) ∧ is f (second f) ≤ is f j := by
  have hs := second_spec f
  have e : is f (second f) = num (second f) := by unfold is; rw [if_pos rfl]
  refine ⟨e, ?_⟩
  rw [e]
  unfold is
  split
  · rename_i h
    exact num_le.mpr ((hs.2 j (fun hj => hc (by rw [← h, hj]))).2 h)
  · exact num_le_big _

open Classical in
/-- A sum that keeps one place. -/
theorem sum_one (h : Fin 1024 → EReal) (b : Fin 1024) : (∑ i, if num i = num b then h i else 0) = h b := by
  rw [Finset.sum_eq_single b]
  · rw [if_pos rfl]
  · intro j _ hj
    rw [if_neg (fun h => hj (num_inj.mp h))]
  · intro h
    exact absurd (Finset.mem_univ _) h

end Cert.Proof.Pick
end
-- ==== Proof.Select.lean ====
/- What a trip selects, read at ideal floats: distances, the two nearest nodes, the activation and the level. -/
module

public import proofs.«01_k».proof.Proof.Trip
public import proofs.«01_k».proof.Proof.Pick

@[expose] public section

set_option maxRecDepth 16384

noncomputable section

namespace Cert.Proof.Reading

open Idealize.ShloMosaic Cert.KernelIdeal Cert.KernelIdeal.Gen Cert.Proof.Model Cert.Proof.Order Cert.Proof.Pick

/-- A register of nodes, read by node. -/
def Reg {α : Type} (a : S8x128.Idx → α) (f : Fin 1024 → α) : Prop := ∀ r l, a (Idealize.ShloMosaic.ix2 r l) = f (fl r l)

/-- The float past every node, as the kernel spells it. -/
abbrev cB : Ideal .f32 := Scalar.ofBits .f32 0x44800000#32

theorem pay35_at (r : Fin 8) (l : Fin 128) : k0_pay35 (Idealize.ShloMosaic.ix2 r l) = BitVec.ofNat 32 (fl r l).val := by
  pointwise [k0_pay35]
  show BitVec.ofNat 32 r.val * 128#32 + BitVec.ofNat 32 l.val = BitVec.ofNat 32 (r.val * 128 + l.val)
  rw [BitVec.ofNat_add, BitVec.ofNat_mul]

theorem pay36_at (r : Fin 8) (l : Fin 128) : k0_pay36 (F := Ideal) (Idealize.ShloMosaic.ix2 r l) = num (fl r l) := by
  pointwise [k0_pay36]
  rw [pay35_at]
  show (((BitVec.ofNat 32 (fl r l).val).toInt : ℝ) : EReal) = _
  rw [toInt_small (by have := (fl r l).isLt; omega)]
  simp [num]

section Dist
variable {n : ℕ} (hn : n ≤ 1024) {d8 : FVec Ideal S8x128 .f32} {d : Fin 1024 → EReal} (hd : Reg d8 d)
include hn hd

theorem dist_at : Reg (k0_pay19 (F := Ideal) k0_pay35 (BitVec.ofNat 32 n) d8) (root n d) := by
  intro r l
  pointwise [k0_pay19]
  rw [pay35_at, hd r l]
  unfold root
  unfold Scalar.select
  rw [top_word]
  by_cases h : (fl r l).val < n
  · rw [if_pos h]
    exact if_pos ((slt_small (by have := (fl r l).isLt; omega) (by omega)).mpr h)
  · rw [if_neg h]
    exact if_neg (fun q => h ((slt_small (by have := (fl r l).isLt; omega) (by omega)).mp q))

theorem least_at : k0_pay21 (F := Ideal) k0_pay35 (BitVec.ofNat 32 n) d8 = root n d (first (root n d)) := by
  pointwise [k0_pay21]
  rw [top_word]
  exact fold_min_fl _ (fun x => dist_at hn hd x.1 x.2) (least_min _)

theorem im_at (r : Fin 8) (l : Fin 128) :
    (open Classical in if k0_pay19 (F := Ideal) k0_pay35 (BitVec.ofNat 32 n) d8 (Idealize.ShloMosaic.ix2 r l) = k0_pay21 (F := Ideal) k0_pay35 (BitVec.ofNat 32 n) d8
      then k0_pay36 (F := Ideal) (Idealize.ShloMosaic.ix2 r l) else Ideal.ofBits .f32 0x44800000#32) = im (root n d) (fl r l) := by
  rw [dist_at hn hd r l, least_at hn hd, pay36_at, big_word]
  rfl

theorem nearest_at : k0_pay23 (F := Ideal) k0_pay35 k0_pay36 cB (BitVec.ofNat 32 n) d8 = num (first (root n d)) := by
  pointwise [k0_pay23, k0_pay22]
  rw [top_word]
  refine (fold_min_fl (f := im (root n d)) (first (root n d)) (fun x => ?_) (im_min _)).trans (im_first _)
  exact (ite_congr rfl (fun _ => rfl) (fun _ => rfl)).trans (im_at hn hd x.1 x.2)

theorem mask_at (r : Fin 8) (l : Fin 128) : k0_pay22 (F := Ideal) k0_pay35 (BitVec.ofNat 32 n) d8 (Idealize.ShloMosaic.ix2 r l) = 1#1
    ↔ root n d (fl r l) = root n d (first (root n d)) := by
  rw [← dist_at hn hd r l, ← least_at hn hd]
  unfold k0_pay22
  generalize k0_pay21 (F := Ideal) k0_pay35 (BitVec.ofNat 32 n) d8 = m
  generalize k0_pay19 (F := Ideal) k0_pay35 (BitVec.ofNat 32 n) d8 = D8
  exact oeq_one

theorem count_at : k0_pay24 (F := Ideal) k0_pay35 (BitVec.ofNat 32 n) d8 = cnt (root n d) := by
  have h : ∀ q : IVec S8x128 1, (Reg q fun i => q (Idealize.ShloMosaic.ix2 (un i).1 (un i).2)) := by
    intro q r l
    have := flEquiv.left_inv (r, l)
    show _ = q (Idealize.ShloMosaic.ix2 (un (fl r l)).1 (un (fl r l)).2)
    rw [show un (fl r l) = (r, l) from this]
  unfold k0_pay24
  have hm := mask_at hn hd
  revert hm
  generalize k0_pay22 (F := Ideal) k0_pay35 (BitVec.ofNat 32 n) d8 = q
  intro hm
  pointwise []
  refine sum2_fl fun r l => ?_
  refine (sitofp_bit _).trans ?_
  exact if_congr (hm r l) rfl rfl

theorem lifted_at : k0_pay25 (F := Ideal) k0_pay35 (BitVec.ofNat 32 n) d8 = Finset.fold min ⊤ (fun x : Fin 8 × Fin 128 => lifted (root n d) (fl x.1 x.2)) Finset.univ := by
  pointwise [k0_pay25, k0_pay22]
  rw [top_word]
  congr 1
  funext x
  rw [dist_at hn hd x.1 x.2, least_at hn hd]
  rfl

theorem second_at : k0_pay28 (F := Ideal) k0_pay36 cB (k0_pay19 k0_pay35 (BitVec.ofNat 32 n) d8) (k0_pay24 k0_pay35 (BitVec.ofNat 32 n) d8)
    (k0_pay25 k0_pay35 (BitVec.ofNat 32 n) d8) (k0_pay26 k0_pay35 k0_pay36 cB (BitVec.ofNat 32 n) d8) = num (second (root n d)) := by
  pointwise [k0_pay28, k0_pay26, k0_pay22]
  have hB : k0_pay23 (F := Ideal) k0_pay35 k0_pay36 (Ideal.ofBits .f32 0x44800000#32) (BitVec.ofNat 32 n) d8 = num (first (root n d)) := nearest_at hn hd
  have hI := im_at hn hd
  rw [count_at hn hd, two_word, hB, lifted_at hn hd, least_at hn hd]
  by_cases hc : root n d (second (root n d)) = root n d (first (root n d))
  · rw [if_pos (cnt_two _ hc), top_word]
    refine (fold_min_fl (f := im2 (root n d)) (second (root n d)) (fun x => ?_) (fun j => (im2_min _ hc j).2)).trans (im2_min _ hc 0).1
    rw [dist_at hn hd x.1 x.2, pay36_at, big_word]
    rfl
  · rw [if_neg (cnt_one _ hc), top_word]
    rw [fold_min_fl (f := lifted (root n d)) (second (root n d)) (fun x => rfl) (fun j => (lifted_min _ hc j).2), (lifted_min _ hc 0).1]
    refine (fold_min_fl (f := Pick.is (root n d)) (second (root n d)) (fun x => ?_) (fun j => (is_min _ hc j).2)).trans (is_min _ hc 0).1
    rw [dist_at hn hd x.1 x.2, pay36_at, big_word]
    rfl

theorem wB_at : KernelIdeal.wB (F := Ideal) k0_pay35 k0_pay36 cB (BitVec.ofNat 32 n) d8 = BitVec.ofNat 32 (first (root n d)).val :=
  (congrArg (Ideal.fptosi 32) (nearest_at hn hd)).trans (fptosi_num _)

theorem wS_at : KernelIdeal.wS (F := Ideal) k0_pay35 k0_pay36 cB (BitVec.ofNat 32 n) d8 = BitVec.ofNat 32 (second (root n d)).val :=
  (congrArg (Ideal.fptosi 32) (second_at hn hd)).trans (fptosi_num _)

theorem act_at : k0_pay29 (F := Ideal) (k0_pay21 k0_pay35 (BitVec.ofNat 32 n) d8) = Ideal.exp (-(root n d (first (root n d)))) := by
  rw [least_at hn hd]
  pointwise [k0_pay29]
  show Ideal.exp (0 - _) = _
  rw [zero_sub]

theorem level_at {h8 : FVec Ideal S8x128 .f32} {h : Fin 1024 → EReal} (hh : Reg h8 h) :
    KernelIdeal.wBf (F := Ideal) k0_pay35 k0_pay36 cB (BitVec.ofNat 32 n) d8 h8 = h (first (root n d)) := by
  unfold KernelIdeal.wBf
  rw [nearest_at hn hd]
  pointwise [k0_pay27]
  refine (sum2_fl (f := fun i => open Classical in if num i = num (first (root n d)) then h i else 0) fun r l => ?_).trans (sum_one h _)
  rw [pay36_at, hh r l]

end Dist

end Cert.Proof.Reading
end
-- ==== Proof.Step.lean ====
/- One trip's stores, read at ideal floats, are one step of the network. -/
module

public import proofs.«01_k».proof.Proof.Select

@[expose] public section

set_option maxRecDepth 16384

noncomputable section

namespace Cert.Proof.Reading

open Idealize.ShloMosaic Cert.KernelIdeal Cert.KernelIdeal.Gen Cert.Proof.Model Cert.Proof.Order Cert.Proof.Pick Cert.Proof.KernelIdeal

/-- An edge's word says it is live. -/
def Live (e : BitVec 32) : Prop := IntOp.cmpi .sgt e 4294967295#32 = 1#1

theorem live_zero : Live 0#32 := by unfold Live; decide
theorem not_live_neg : ¬ Live 4294967295#32 := by unfold Live; decide

/-- Node numbers along a row of edges. -/
abbrev irow : IVec S1x1024 32 := iota .tc S1x1024 32 [1] iota_S1x1024_d1_w32
/-- Sample numbers along the activations. -/
abbrev iacts : IVec S1x64 32 := iota .tc S1x64 32 [1] iota_S1x64_d1_w32

theorem one_word : Ideal.ofBits .f32 0x3F800000#32 = 1 := by
  simp [Ideal.ofBits, Ideal.ieee]
  rw [← EReal.coe_mul]
  norm_num

theorem sel_eq {α : Type} {a b : ℕ} (ha : a < 2 ^ 31) (hb : b < 2 ^ 31) (u v : α) :
    Scalar.select (IntOp.cmpi .eq (BitVec.ofNat 32 a) (BitVec.ofNat 32 b)) u v = if a = b then u else v :=
  if_congr (eq_small ha hb) rfl rfl

theorem nlt (i : Fin 1024) : i.val < 2 ^ 31 := by have := i.isLt; omega

theorem sel_fin {α : Type} (i j : Fin 1024) (u v : α) :
    Scalar.select (IntOp.cmpi .eq (BitVec.ofNat 32 i.val) (BitVec.ofNat 32 j.val)) u v = if i = j then u else v :=
  if_congr ((eq_small (nlt i) (nlt j)).trans Fin.ext_iff.symm) rfl rfl

theorem rowOf_at {α : Type} {N C : ℕ} (T : (⟨2, ![N, C]⟩ : Shape).Idx → α) (r : Fin N) (k : Fin C) :
    rowOf T r (Idealize.ShloMosaic.ix2 0 k) = T (Idealize.ShloMosaic.ix2 r k) := rfl

theorem setRow_at {α : Type} {N C : ℕ} (T : (⟨2, ![N, C]⟩ : Shape).Idx → α) (r : Fin N) (w : (⟨2, ![1, C]⟩ : Shape).Idx → α) (i : Fin N) (k : Fin C) :
    setRow T r w (Idealize.ShloMosaic.ix2 i k) = if i = r then w (Idealize.ShloMosaic.ix2 0 k) else T (Idealize.ShloMosaic.ix2 i k) :=
  if_congr (show i.val = r.val ↔ i = r from Fin.ext_iff.symm) rfl rfl

/-- The kernel's buffers hold a state, with the distances to the sample it meets next. -/
structure Holds (s : St) (x : Fin 512 → EReal) (V : Vec Ideal S1024x512 .f32) (h d : FVec Ideal S8x128 .f32) (E : Vec Ideal S1024x1024 .i32) : Prop where
  V : ∀ i k, V (Idealize.ShloMosaic.ix2 i k) = s.V i k
  h : Reg h s.h
  L : ∀ i j, Live (E (Idealize.ShloMosaic.ix2 i j)) ↔ s.L i j
  d : Reg d (sq s.V x)

section Readings
variable {x y u : Vec Ideal S1x512 .f32} {V : Vec Ideal S1024x512 .f32}

theorem dist8_at {f : Fin 512 → EReal} (hy : ∀ k, y (Idealize.ShloMosaic.ix2 0 k) = f k) {W : Fin 1024 → Fin 512 → EReal} (hV : ∀ i k, V (Idealize.ShloMosaic.ix2 i k) = W i k) :
    Reg (k0_pay31 (F := Ideal) y V) (sq W f) := by
  intro r l
  pointwise [k0_pay31]
  unfold Model.sq
  refine Finset.sum_congr rfl fun k _ => ?_
  rw [hy k, ← hV (fl r l) k]
  rfl

theorem dist8_first {f : Fin 512 → EReal} (hy : ∀ k, y (Idealize.ShloMosaic.ix2 0 k) = f k) {W : Fin 1024 → Fin 512 → EReal}
    (hV : ∀ i k, V (Idealize.ShloMosaic.ix2 i k) = W i k) : Reg (k0_pay37 (F := Ideal) y V) (Model.sq W f) := by
  intro r l
  pointwise [k0_pay37]
  unfold Model.sq
  refine Finset.sum_congr rfl fun k _ => ?_
  rw [hy k, ← hV (fl r l) k]
  rfl

end Readings

section Bit
variable {E : Vec Ideal S1x1024 .i32} (B C : Fin 1024)

/-- The neighbour's bit as a float. -/
def bit (P : Prop) : EReal := open Classical in if P then 1 else 0

theorem bit_at (e : BitVec 32) (i : Fin 1024) :
    (FloatOps.sitofp (F := Ideal) .f32 (BitVec.setWidth 32 (IntOp.andi
      (IntOp.cmpi .sgt (Scalar.select (IntOp.cmpi .eq (BitVec.ofNat 32 i.val) (BitVec.ofNat 32 C.val)) 0#32 e) 4294967295#32)
      (IntOp.cmpi .ne (BitVec.ofNat 32 i.val) (BitVec.ofNat 32 B.val)))) : EReal) = bit ((i = C ∨ Live e) ∧ i ≠ B) := by
  have key : IntOp.andi
      (IntOp.cmpi .sgt (Scalar.select (IntOp.cmpi .eq (BitVec.ofNat 32 i.val) (BitVec.ofNat 32 C.val)) 0#32 e) 4294967295#32)
      (IntOp.cmpi .ne (BitVec.ofNat 32 i.val) (BitVec.ofNat 32 B.val)) = 1#1 ↔ (i = C ∨ Live e) ∧ i ≠ B := by
    rw [andi_one, ne_small (nlt i) (nlt B), sel_fin]
    refine and_congr ?_ (not_congr Fin.ext_iff.symm)
    by_cases h : i = C
    · rw [if_pos h]
      exact ⟨fun _ => .inl h, fun _ => live_zero⟩
    · rw [if_neg h]
      exact ⟨fun q => .inr q, fun q => q.resolve_left h⟩
  refine (sitofp_bit _).trans ?_
  unfold bit
  by_cases h : (i = C ∨ Live e) ∧ i ≠ B
  · rw [if_pos (key.mpr h), if_pos h]
  · rw [if_neg (fun q => h (key.mp q)), if_neg h]

end Bit

section Steps
variable {p : Par} {s : St} {f g : Fin 512 → EReal} (hlo : 960 ≤ s.n)
  {V : Vec Ideal S1024x512 .f32} {h d : FVec Ideal S8x128 .f32} {E : Vec Ideal S1024x1024 .i32}
  (H : Holds s f V h d E) {x y : Vec Ideal S1x512 .f32}
  (hx : ∀ k, x (Idealize.ShloMosaic.ix2 0 k) = f k) (hy : ∀ k, y (Idealize.ShloMosaic.ix2 0 k) = g k)
include hlo H hx hy

theorem holds_insert (rn : Fin 1024) (hrn : s.n = rn.val) (D8 : FVec Ideal S8x128 .f32) (a b : Ideal .f32) (c : FVec Ideal S1x8x128 .f32)
    (hC : (Scalar.fptosi (F := Ideal) (φ := .f32) 32 (k0_pay28 k0_pay36 cB D8 a b c)) = BitVec.ofNat 32 (C s f).val) :
    let V' := setRow V rn (k0_pay2 (F := Ideal) x (rowOf V (B s f)))
    Holds (ins s f) g V' (k0_pay3 k0_pay35 (BitVec.ofNat 32 s.n) h) (k0_pay31 y V')
      (setRow (setRow (setRow E (B s f) (k0_pay4 (F := Ideal) irow (BitVec.ofNat 32 s.n) (BitVec.ofNat 32 (C s f).val) (rowOf E (B s f)))) (C s f)
        (k0_pay5 (F := Ideal) irow (BitVec.ofNat 32 s.n) (BitVec.ofNat 32 (B s f).val)
          (rowOf (setRow E (B s f) (k0_pay4 (F := Ideal) irow (BitVec.ofNat 32 s.n) (BitVec.ofNat 32 (C s f).val) (rowOf E (B s f)))) (C s f))))
        rn (k0_pay30 k0_pay36 irow cB D8 a b c (k0_pay6 (BitVec.ofNat 32 (B s f).val)))) := by
  have hBn : (B s f).val < s.n := B_lt hlo
  have hCn : (C s f).val < s.n := C_lt hlo
  have hCB : C s f ≠ B s f := C_ne_B
  have hbn : B s f ≠ rn := fun q => by rw [q] at hBn; omega
  have hcn : C s f ≠ rn := fun q => by rw [q] at hCn; omega
  intro V'
  have hV' : ∀ i k, V' (Idealize.ShloMosaic.ix2 i k) = (ins s f).V i k := by
    intro i k
    show setRow V rn _ _ = _
    rw [setRow_at]
    unfold ins
    dsimp only
    by_cases hi : i = rn
    · rw [if_pos hi, if_pos (by rw [hi, hrn])]
      pointwise [k0_pay2]
      rw [hx, rowOf_at, H.V]
    · rw [if_neg hi, if_neg (fun q => hi (Fin.ext (q.trans hrn))), H.V]
  refine ⟨hV', fun r l => ?_, fun i j => ?_, dist8_at hy hV'⟩
  · pointwise [k0_pay3]
    rw [pay35_at, hrn, sel_fin, H.h r l, ← one_word]
    unfold ins
    dsimp only
    rw [hrn]
    by_cases hi : fl r l = rn
    · rw [if_pos hi, if_pos (by rw [hi])]
    · rw [if_neg hi, if_neg (fun q => hi (Fin.ext q))]
  · rw [setRow_at, setRow_at, setRow_at]
    have h30 : k0_pay30 (F := Ideal) k0_pay36 irow cB D8 a b c (k0_pay6 (BitVec.ofNat 32 (B s f).val)) (Idealize.ShloMosaic.ix2 0 j)
        = if j = B s f ∨ j = C s f then 0#32 else 4294967295#32 := by
      unfold k0_pay30
      rw [hC]
      pointwise [k0_pay6]
      unfold Scalar.select
      refine if_congr ?_ rfl rfl
      refine ori_one.trans (or_congr ?_ ?_)
      · exact (eq_small (nlt _) (nlt _)).trans Fin.ext_iff.symm
      · exact (eq_small (nlt _) (nlt _)).trans Fin.ext_iff.symm
    have h4 : k0_pay4 (F := Ideal) irow (BitVec.ofNat 32 s.n) (BitVec.ofNat 32 (C s f).val) (rowOf E (B s f)) (Idealize.ShloMosaic.ix2 0 j)
        = if j = C s f then 4294967295#32 else if j = rn then 0#32 else E (Idealize.ShloMosaic.ix2 (B s f) j) := by
      pointwise [k0_pay4]
      rw [hrn, sel_fin, sel_fin]
      rfl
    have h5 : ∀ T, k0_pay5 (F := Ideal) irow (BitVec.ofNat 32 s.n) (BitVec.ofNat 32 (B s f).val) T (Idealize.ShloMosaic.ix2 0 j)
        = if j = B s f then 4294967295#32 else if j = rn then 0#32 else T (Idealize.ShloMosaic.ix2 0 j) := by
      intro T
      pointwise [k0_pay5]
      rw [hrn, sel_fin, sel_fin]
    rw [h30, h4, h5, rowOf_at, setRow_at, if_neg hCB]
    have hL : ∀ i j, (ins s f).L i j ↔ (i = rn ∧ (j = B s f ∨ j = C s f)) ∨ (j = rn ∧ (i = B s f ∨ i = C s f)) ∨ (i ≠ rn ∧ ¬ Both s f i j ∧ s.L i j) := by
      intro i j
      unfold ins
      simp only [hrn, Fin.ext_iff, ne_eq]
    rw [hL]
    unfold Both
    by_cases hi : i = rn
    · subst hi
      rw [if_pos rfl]
      by_cases hj : j = B s f ∨ j = C s f
      · rw [if_pos hj]
        exact ⟨fun _ => .inl ⟨rfl, hj⟩, fun _ => live_zero⟩
      · rw [if_neg hj]
        refine ⟨fun q => absurd q not_live_neg, fun q => ?_⟩
        rcases q with q | q | q
        · exact absurd q.2 hj
        · exact (q.2.elim (fun e => hbn e.symm) (fun e => hcn e.symm)).elim
        · exact absurd rfl q.1
    · rw [if_neg hi]
      by_cases hic : i = C s f
      · rw [if_pos hic, hic]
        by_cases hj : j = B s f
        · rw [if_pos hj, hj]
          refine ⟨fun q => absurd q not_live_neg, fun q => ?_⟩
          rcases q with q | q | q
          · exact absurd q.1 hcn
          · exact absurd q.1 hbn
          · exact absurd (.inr ⟨rfl, rfl⟩) q.2.1
        · rw [if_neg hj]
          by_cases hjn : j = rn
          · rw [if_pos hjn, hjn]
            exact ⟨fun _ => .inr (.inl ⟨rfl, .inr rfl⟩), fun _ => live_zero⟩
          · rw [if_neg hjn, H.L]
            refine ⟨fun q => .inr (.inr ⟨hcn, ?_, q⟩), fun q => ?_⟩
            · rintro (e | e)
              · exact hCB e.1
              · exact hj e.2
            · rcases q with q | q | q
              · exact absurd q.1 hcn
              · exact absurd q.1 hjn
              · exact q.2.2
      · rw [if_neg hic]
        by_cases hib : i = B s f
        · rw [if_pos hib, hib]
          by_cases hj : j = C s f
          · rw [if_pos hj, hj]
            refine ⟨fun q => absurd q not_live_neg, fun q => ?_⟩
            rcases q with q | q | q
            · exact absurd q.1 hbn
            · exact absurd q.1 hcn
            · exact absurd (.inl ⟨rfl, rfl⟩) q.2.1
          · rw [if_neg hj]
            by_cases hjn : j = rn
            · rw [if_pos hjn, hjn]
              exact ⟨fun _ => .inr (.inl ⟨rfl, .inl rfl⟩), fun _ => live_zero⟩
            · rw [if_neg hjn, H.L]
              refine ⟨fun q => .inr (.inr ⟨hbn, ?_, q⟩), fun q => ?_⟩
              · rintro (e | e)
                · exact hj e.2
                · exact hCB e.1.symm
              · rcases q with q | q | q
                · exact absurd q.1 hbn
                · exact absurd q.1 hjn
                · exact q.2.2
        · rw [if_neg hib, H.L]
          refine ⟨fun q => .inr (.inr ⟨hi, ?_, q⟩), fun q => ?_⟩
          · rintro (e | e)
            · exact hib e.1
            · exact hic e.1
          · rcases q with q | q | q
            · exact absurd q.1 hi
            · exact (q.2.elim hib hic).elim
            · exact q.2.2

theorem holds_update (w : Ideal .f32) (hw : w = s.h (B s f)) :
    let b := BitVec.ofNat 32 (B s f).val
    let c := BitVec.ofNat 32 (C s f).val
    let V' := setRow (k0_pay17 (F := Ideal) x (k0_pay12 p.en irow h b c (rowOf E (B s f))) V) (B s f) (k0_pay14 p.eb x w (rowOf V (B s f)))
    Holds (upd p s f) g V'
      (k0_pay16 (F := Ideal) p.tn p.ka k0_pay35 h b (k0_pay11 irow b c (rowOf E (B s f))) (k0_pay13 p.tb p.ka w))
      (k0_pay18 (F := Ideal) k0_pay35 x y b (k0_pay12 p.en irow h b c (rowOf E (B s f))) (k0_pay15 p.eb x y w (rowOf V (B s f))) V)
      (setRow (setRow E (B s f) (k0_pay8 (F := Ideal) irow c (rowOf E (B s f)))) (C s f)
        (k0_pay9 (F := Ideal) irow b (rowOf (setRow E (B s f) (k0_pay8 (F := Ideal) irow c (rowOf E (B s f)))) (C s f)))) := by
  subst hw
  have hCB : C s f ≠ B s f := C_ne_B
  intro b c V'
  have hbit : ∀ i, ((i = C s f ∨ Live (rowOf E (B s f) (Idealize.ShloMosaic.ix2 0 i))) ∧ i ≠ B s f) ↔ Nb s f i := by
    intro i
    rw [rowOf_at, H.L]
    rfl
  have h14 : ∀ k, k0_pay14 (F := Ideal) p.eb x (s.h (B s f)) (rowOf V (B s f)) (Idealize.ShloMosaic.ix2 0 k)
      = s.V (B s f) k + p.eb * s.h (B s f) * (f k - s.V (B s f) k) := by
    intro k
    pointwise [k0_pay14]
    rw [rowOf_at, H.V, hx]
  have h17 : ∀ i k, k0_pay17 (F := Ideal) x (k0_pay12 p.en irow h b c (rowOf E (B s f))) V (Idealize.ShloMosaic.ix2 i k)
      = s.V i k + bit (Nb s f i) * (p.en * s.h i) * (f k - s.V i k) := by
    intro i k
    pointwise [k0_pay17, k0_pay12, k0_pay10, k0_pay7]
    rw [H.V, hx, bit_at, hbit]
    have := H.h (un i).1 (un i).2
    rw [fl_un] at this
    rw [← this]
    rfl
  have hV' : ∀ i k, V' (Idealize.ShloMosaic.ix2 i k) = (upd p s f).V i k := by
    intro i k
    show setRow _ _ _ _ = _
    rw [setRow_at, h14, h17]
    unfold upd bit
    dsimp only
    by_cases hi : i = B s f
    · rw [if_pos hi, if_pos hi]
    · rw [if_neg hi, if_neg hi]
      by_cases hN : Nb s f i
      · rw [if_pos hN, if_pos hN, one_mul]
      · rw [if_neg hN, if_neg hN, zero_mul, zero_mul, add_zero]
  refine ⟨hV', fun r l => ?_, fun i j => ?_, fun r l => ?_⟩
  · pointwise [k0_pay16, k0_pay13, k0_pay11, k0_pay10, k0_pay7]
    have hb := bit_at (B s f) (C s f) (rowOf E (B s f) (Idealize.ShloMosaic.ix2 0 (fl r l))) (fl r l)
    rw [hbit] at hb
    rw [pay35_at, sel_fin, H.h r l, show (1 : EReal) = cOne from one_word.symm]
    unfold upd
    dsimp only
    by_cases hi : fl r l = B s f
    · rw [if_pos hi, if_pos hi]
    · rw [if_neg hi, if_neg hi]
      refine (congrArg (fun z : EReal => s.h (fl r l) + z * (p.tn * p.ka * (cOne - s.h (fl r l)) - p.tn)) hb).trans ?_
      unfold bit
      by_cases hN : Nb s f (fl r l)
      · rw [if_pos hN, if_pos hN, one_mul]
      · rw [if_neg hN, if_neg hN, zero_mul, add_zero]
  · rw [setRow_at, setRow_at]
    have h8 : k0_pay8 (F := Ideal) irow c (rowOf E (B s f)) (Idealize.ShloMosaic.ix2 0 j)
        = if j = C s f then 0#32 else E (Idealize.ShloMosaic.ix2 (B s f) j) := by
      pointwise [k0_pay8, k0_pay7]
      rw [sel_fin]
      rfl
    have h9 : ∀ T, k0_pay9 (F := Ideal) irow b T (Idealize.ShloMosaic.ix2 0 j)
        = if j = B s f then 0#32 else T (Idealize.ShloMosaic.ix2 0 j) := by
      intro T
      pointwise [k0_pay9]
      rw [sel_fin]
    rw [h8, h9, rowOf_at, setRow_at, if_neg hCB]
    show _ ↔ Both s f i j ∨ s.L i j
    unfold Both
    by_cases hic : i = C s f
    · rw [if_pos hic, hic]
      by_cases hj : j = B s f
      · rw [if_pos hj]
        exact ⟨fun _ => .inl (.inr ⟨rfl, hj⟩), fun _ => live_zero⟩
      · rw [if_neg hj, H.L]
        refine ⟨.inr, fun q => ?_⟩
        rcases q with (e | e) | q
        · exact absurd e.1 hCB
        · exact absurd e.2 hj
        · exact q
    · rw [if_neg hic]
      by_cases hib : i = B s f
      · rw [if_pos hib, hib]
        by_cases hj : j = C s f
        · rw [if_pos hj]
          exact ⟨fun _ => .inl (.inl ⟨rfl, hj⟩), fun _ => live_zero⟩
        · rw [if_neg hj, H.L]
          refine ⟨.inr, fun q => ?_⟩
          rcases q with (e | e) | q
          · exact absurd e.2 hj
          · exact absurd e.1.symm hCB
          · exact q
      · rw [if_neg hib, H.L]
        refine ⟨.inr, fun q => ?_⟩
        rcases q with (e | e) | q
        · exact absurd e.1 hib
        · exact absurd e.1 hic
        · exact q
  · pointwise [k0_pay18, k0_pay15]
    rw [pay35_at, sel_fin]
    unfold Model.sq
    by_cases hi : fl r l = B s f
    · rw [if_pos hi]
      refine (Fin.sum_univ_one _).trans (Finset.sum_congr rfl fun k _ => ?_)
      have e := hV' (fl r l) k
      rw [show V' (Idealize.ShloMosaic.ix2 (fl r l) k) = _ from setRow_at _ _ _ _ _, if_pos hi] at e
      rw [hy, e]
    · rw [if_neg hi]
      refine Finset.sum_congr rfl fun k _ => ?_
      have e := hV' (fl r l) k
      rw [show V' (Idealize.ShloMosaic.ix2 (fl r l) k) = _ from setRow_at _ _ _ _ _, if_neg hi] at e
      rw [hy, ← e]
      rfl

end Steps

end Cert.Proof.Reading
end
-- ==== Proof.Loop.lean ====
/- What the kernel's loop keeps: the buffers hold the network's state after the samples met so far. -/
module

public import proofs.«01_k».proof.Proof.Step

@[expose] public section

set_option maxRecDepth 16384

noncomputable section

namespace Cert.Proof.Reading

open Cert.KernelIdeal Cert.KernelIdeal.Gen Cert.Proof.Model Cert.Proof.Order Cert.Proof.Pick Cert.Proof.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem trips_eq : k0_t1_loop.trips = 64 := by decide

theorem iv_at (k : Fin k0_t1_loop.trips) : Scf.iv 0#32 1#32 k.val = BitVec.ofNat 32 k.val := by
  show 0#32 + BitVec.ofNat 32 k.val * 1#32 = _
  rw [BitVec.mul_one, BitVec.zero_add]

theorem off1_at (k : Fin k0_t1_loop.trips) (r : Fin 64) (h : k.val = r.val) : k0_off1 k = ![r.val, 0] := by
  revert k r; decide

theorem off2_at (k : Fin k0_t1_loop.trips) (r : Fin 64) (h : min (k.val + 1) 63 = r.val) : k0_off2 k = ![r.val, 0] := by
  rw [← h]; clear h r; revert k; decide

theorem cond1_iff (sz : BitVec 32) (p q : BitVec 1) :
    k0_cond1 sz p q = 1#1 ↔ p = 1#1 ∧ q = 1#1 ∧ IntOp.cmpi .slt sz 1024#32 = 1#1 := by
  have : k0_cond1 sz p q = IntOp.cmpi .ne (BitVec.setWidth 32 (IntOp.andi (IntOp.andi p q) (IntOp.cmpi .slt sz 1024#32))) 0#32 := rfl
  rw [this]
  clear this
  generalize IntOp.cmpi .slt sz 1024#32 = r
  revert p q r; decide

theorem cond2_iff (sz : BitVec 32) (p q : BitVec 1) : k0_cond2 sz p q = 1#1 ↔ ¬ k0_cond1 sz p q = 1#1 := by
  have h1 : k0_cond1 sz p q = IntOp.cmpi .ne (BitVec.setWidth 32 (IntOp.andi (IntOp.andi p q) (IntOp.cmpi .slt sz 1024#32))) 0#32 := rfl
  have h2 : k0_cond2 sz p q = IntOp.cmpi .ne (BitVec.setWidth 32 (IntOp.xori (IntOp.andi (IntOp.andi p q) (IntOp.cmpi .slt sz 1024#32)) 1#1)) 0#32 := rfl
  rw [h1, h2]
  clear h1 h2
  generalize IntOp.cmpi .slt sz 1024#32 = r
  revert p q r; decide

/-- Every row a trip addresses exists when the two nodes and the size are below 1024. -/
theorem chk_of {sz wb ws : BitVec 32} {p q : BitVec 1} (b s : Fin 1024) (hb : wb.toNat = b.val) (hs : ws.toNat = s.val)
    (hn : k0_cond1 sz p q = 1#1 → sz.toNat < 1024) : k0_chk1 sz wb ws p q :=
  ⟨fun _ => row_inb (N := 1024) (C := 512) _ hb, fun h => row_inb (N := 1024) (C := 512) _ (r := ⟨sz.toNat, hn h⟩) rfl,
   fun _ => row_inb (N := 1024) (C := 1024) _ hb, fun _ => row_inb (N := 1024) (C := 1024) _ hs,
   fun h => row_inb (N := 1024) (C := 1024) _ (r := ⟨sz.toNat, hn h⟩) rfl, fun _ => row_inb (N := 1024) (C := 1024) _ hb,
   fun _ => row_inb (N := 1024) (C := 1024) _ hs, fun _ => row_inb (N := 1024) (C := 512) _ hb⟩

theorem toNat_small {n : ℕ} (h : n < 2 ^ 32) : (BitVec.ofNat 32 n).toNat = n := by
  rw [BitVec.toNat_ofNat]; exact Nat.mod_eq_of_lt h

/-- A register read by node. -/
def flat {α : Type} (a : S8x128.Idx → α) (i : Fin 1024) : α := a (Idealize.ShloMosaic.ix2 (un i).1 (un i).2)

theorem reg_flat {α : Type} (a : S8x128.Idx → α) : Reg a (flat a) := by
  intro r l
  have := flEquiv.left_inv (r, l)
  show _ = a (Idealize.ShloMosaic.ix2 (un (fl r l)).1 (un (fl r l)).2)
  rw [show un (fl r l) = (r, l) from this]

theorem Reg.flat_eq {α : Type} {a : S8x128.Idx → α} {f : Fin 1024 → α} (h : Reg a f) : flat a = f := by
  funext i
  exact (h _ _).trans (congrArg f (fl_un i))

section Pure
variable (p : Par) (X : Fin 64 → Fin 512 → EReal) (s₀ : St)

/-- The buffers and carried values after `t` samples. -/
structure At (t : ℕ) (V : Vec Ideal S1024x512 .f32) (h : FVec Ideal S8x128 .f32) (E : Vec Ideal S1024x1024 .i32)
    (acc : BitVec 32 × FVec Ideal S1x64 .f32 × FVec Ideal S8x128 .f32) : Prop where
  holds : Holds (states p X s₀ t) (at64 X t) V h acc.2.2 E
  size : acc.1 = BitVec.ofNat 32 (states p X s₀ t).n
  acts : ∀ j : Fin 64, acc.2.1 (Idealize.ShloMosaic.ix2 0 j) = if j.val < t then Model.acts p X s₀ j.val else 0

end Pure

section Cond
variable {n : ℕ} (hn : n ≤ 1024) {d8 h8 : FVec Ideal S8x128 .f32} {d h : Fin 1024 → EReal} (hd : Reg d8 d) (hh : Reg h8 h)
include hn hd hh

theorem cond_at : k0_cond1 (BitVec.ofNat 32 n) (wP (F := Ideal) k0_pay35 (BitVec.ofNat 32 n) d8) (wQ (F := Ideal) k0_pay35 k0_pay36 cB (BitVec.ofNat 32 n) d8 h8) = 1#1
    ↔ Ideal.exp (-(root n d (first (root n d)))) < cA ∧ h (first (root n d)) < cH ∧ n < 1024 := by
  rw [cond1_iff]
  refine and_congr ?_ (and_congr ?_ (slt_small (by omega) (by omega)))
  · unfold wP
    rw [act_at hn hd]
    exact olt_one
  · have := level_at hn hd hh
    unfold wBf at this
    unfold wQ
    rw [this]
    exact olt_one

end Cond

section Run
variable (c : Dev nD) (arg0 : Memref sig .tc .smem S5 .f32) (harg0 : arg0.IsWhole) (arg1 : Memref sig .tc .vmem S64x512 .f32) (harg1 : arg1.IsWhole) (arg2 : Memref sig .tc .vmem S1024x512 .f32) (harg2 : arg2.IsWhole) (arg3 : Memref sig .tc .vmem S8x128 .f32) (harg3 : arg3.IsWhole) (arg4 : Memref sig .tc .vmem S1024x1024 .i32) (harg4 : arg4.IsWhole) (arg5 : Memref sig .tc .vmem S1024x512 .f32) (harg5 : arg5.IsWhole) (arg6 : Memref sig .tc .vmem S8x128 .f32) (harg6 : arg6.IsWhole) (arg7 : Memref sig .tc .vmem S1x64 .f32) (harg7 : arg7.IsWhole) (arg8 : Memref sig .tc .vmem S1024x1024 .i32) (harg8 : arg8.IsWhole) (arg9 : Memref sig .tc .vmem S8x128 .f32) (harg9 : arg9.IsWhole)
  (p : Par) (X : Fin 64 → Fin 512 → EReal) (s₀ : St) (h960 : s₀.n = 960)

theorem hLd_at (f6 : Buf (Elt Ideal) (arg6.view.loc (c : Thread nD τ))) : hLd c arg6 f6 = arg6.view.read (Elt Ideal) f6 := by
  unfold hLd k0_pay20
  rw [shapeCast_self]
  exact View.readAt_full _ _ _

include h960 in
/-- One trip keeps it. -/
theorem trip_at (k : Fin k0_t1_loop.trips) (acc : BitVec 32 × FVec Ideal S1x64 .f32 × FVec Ideal S8x128 .f32)
    (f1 : Buf (Elt Ideal) (arg1.view.loc (c : Thread nD τ))) (f5 : Buf (Elt Ideal) (arg5.view.loc (c : Thread nD τ)))
    (f6 : Buf (Elt Ideal) (arg6.view.loc (c : Thread nD τ))) (f8 : Buf (Elt Ideal) (arg8.view.loc (c : Thread nD τ)))
    (f9 : Buf (Elt Ideal) (arg9.view.loc (c : Thread nD τ)))
    (hX : ∀ i k, arg1.view.read (Elt Ideal) f1 (Idealize.ShloMosaic.ix2 i k) = X i k)
    (hI : At p X s₀ k.val (arg5.view.read (Elt Ideal) f5) (arg6.view.read (Elt Ideal) f6) (arg8.view.read (Elt Ideal) f8) acc) :
    Bufs c arg1 arg5 arg6 arg8 arg9 f1 f5 f6 f8 f9 ⊢
      wp Idealize.ShloMosaic.frame (wpE (defs₀ (F := Ideal)) 𝒱₀ (c : Thread nD τ) none) Set.univ
        (k0_t1_body (F := Ideal) arg0 harg0 arg1 harg1 arg2 harg2 arg3 harg3 arg4 harg4 arg5 harg5 arg6 harg6 arg7 harg7 arg8 harg8 arg9 harg9
          p.eb p.en p.tb p.tn p.ka k0_pay35 k0_pay36 irow iacts cB k acc)
        (fun r => iprop(∃ g5 g6 g8 g9, Bufs c arg1 arg5 arg6 arg8 arg9 f1 g5 g6 g8 g9
          ∗ ⌜At p X s₀ (k.val + 1) (arg5.view.read (Elt Ideal) g5) (arg6.view.read (Elt Ideal) g6) (arg8.view.read (Elt Ideal) g8) r⌝)) := by
  obtain ⟨sz, a, d8⟩ := acc
  have hsz := hI.size
  have hb0 := size_states (p := p) (X := X) h960 k.val
  obtain ⟨n, en⟩ : ∃ n, n = (states p X s₀ k.val).n := ⟨_, rfl⟩
  rw [← en] at hsz hb0
  dsimp only at hsz
  subst hsz
  have hk : k.val < 64 := trips_eq ▸ k.isLt
  have hn : n ≤ 1024 := by omega
  have hd := reg_flat d8
  have hh := reg_flat (hLd c arg6 f6)
  have hn32 : (BitVec.ofNat 32 n).toNat = n := toNat_small (by omega)
  have hb : (wB (F := Ideal) k0_pay35 k0_pay36 cB (BitVec.ofNat 32 n) d8).toNat = (first (root n (flat d8))).val := by
    rw [wB_at hn hd]; exact toNat_small (by have := (first (root n (flat d8))).isLt; omega)
  have hs : (wS (F := Ideal) k0_pay35 k0_pay36 cB (BitVec.ofNat 32 n) d8).toNat = (second (root n (flat d8))).val := by
    rw [wS_at hn hd]; exact toNat_small (by have := (second (root n (flat d8))).isLt; omega)
  have hcond := cond_at hn hd hh
  have hchk := chk_of (sz := BitVec.ofNat 32 n) (p := wP (F := Ideal) k0_pay35 (BitVec.ofNat 32 n) d8)
    (q := wQ (F := Ideal) k0_pay35 k0_pay36 cB (BitVec.ofNat 32 n) d8 (hLd c arg6 f6)) _ _ hb hs
    (fun h => by rw [hn32]; exact (hcond.mp h).2.2)
  have ht := off1_at k ⟨k.val, hk⟩ rfl
  have ht' := off2_at k ⟨min (k.val + 1) 63, by omega⟩ rfl
  have hx : ∀ j, rowOf (arg1.view.read (Elt Ideal) f1) ⟨k.val, hk⟩ (Idealize.ShloMosaic.ix2 0 j) = at64 X k.val j := by
    intro j
    rw [rowOf_at, hX]
    unfold at64
    congr 2
    omega
  have hy : ∀ j, rowOf (arg1.view.read (Elt Ideal) f1) ⟨min (k.val + 1) 63, by omega⟩ (Idealize.ShloMosaic.ix2 0 j) = at64 X (k.val + 1) j := by
    intro j
    rw [rowOf_at, hX]
    rfl
  have ed : root n (flat d8) = D (states p X s₀ k.val) (at64 X k.val) := by
    have : flat d8 = Model.sq (states p X s₀ k.val).V (at64 X k.val) := hI.holds.d.flat_eq
    rw [this, en]; rfl
  have eh : flat (hLd c arg6 f6) = (states p X s₀ k.val).h := by
    rw [hLd_at]; exact hI.holds.h.flat_eq
  have hIns : k0_cond1 (BitVec.ofNat 32 n) (wP (F := Ideal) k0_pay35 (BitVec.ofNat 32 n) d8)
      (wQ (F := Ideal) k0_pay35 k0_pay36 cB (BitVec.ofNat 32 n) d8 (hLd c arg6 f6)) = 1#1 ↔ Ins (states p X s₀ k.val) (at64 X k.val) := by
    rw [hcond, eh, ed, en]
    rfl
  have hacts : ∀ j : Fin 64, k0_pay32 (F := Ideal) iacts a (Scf.iv 0#32 1#32 k.val) (k0_pay21 k0_pay35 (BitVec.ofNat 32 n) d8) (Idealize.ShloMosaic.ix2 0 j)
      = if j.val < k.val + 1 then Model.acts p X s₀ j.val else 0 := by
    intro j
    have hj : a (Idealize.ShloMosaic.ix2 0 j) = _ := hI.acts j
    rw [iv_at]
    pointwise [k0_pay32]
    rw [act_at hn hd, hj, sel_eq (by have := j.isLt; omega) (by omega), ed]
    by_cases e : j.val = k.val
    · rw [if_pos e, if_pos (by omega), e]
      rfl
    · rw [if_neg e]
      by_cases l : j.val < k.val
      · rw [if_pos l, if_pos (by omega)]
      · rw [if_neg l, if_neg (by omega)]
  have hwB := wB_at hn hd
  have hwS := wS_at hn hd
  have hwF := level_at hn hd hh
  by_cases h1 : k0_cond1 (BitVec.ofNat 32 n) (wP (F := Ideal) k0_pay35 (BitVec.ofNat 32 n) d8)
      (wQ (F := Ideal) k0_pay35 k0_pay36 cB (BitVec.ofNat 32 n) d8 (hLd c arg6 f6)) = 1#1
  · have h2 := mt (cond2_iff _ _ _).mp (not_not.mpr h1)
    have hnl := (hcond.mp h1).2.2
    refine (trip_insert (F := Ideal) c arg0 harg0 arg1 harg1 arg2 harg2 arg3 harg3 arg4 harg4 arg5 harg5 arg6 harg6 arg7 harg7 arg8 harg8 arg9 harg9
      p.eb p.en p.tb p.tn p.ka k0_pay35 k0_pay36 irow iacts cB k (BitVec.ofNat 32 n) a d8 f1 f5 f6 f8 f9 ⟨k.val, hk⟩ ⟨min (k.val + 1) 63, by omega⟩ _ _ ⟨n, hnl⟩
      ht ht' hb hs hn32 hchk h1 h2).trans (wp_mono _ _ _ fun r => ?_)
    iintro ⟨%g5, %g6, %g8, %g9, H, %hr⟩
    iexists g5, g6, g8, g9
    isplitl [H]
    · iexact H
    ipureintro
    obtain ⟨er, e5, e6, e8, e9⟩ := hr
    subst er
    have hsz' : szNext (F := Ideal) k0_pay35 k0_pay36 cB (BitVec.ofNat 32 n) d8 (hLd c arg6 f6) = BitVec.ofNat 32 (n + 1) := by
      obtain ⟨c1, c2, c3⟩ := (cond1_iff _ _ _).mp h1
      unfold szNext
      refine (if_pos ?_).trans ?_
      · show IntOp.andi (IntOp.andi _ _) (IntOp.cmpi .slt (BitVec.ofNat 32 n) 1024#32) = 1#1
        rw [c1, c2, c3]; rfl
      · show BitVec.ofNat 32 n + BitVec.ofNat 32 1 = _
        rw [← BitVec.ofNat_add]
    have hI' := hIns.mp h1
    have hnext : states p X s₀ (k.val + 1) = ins (states p X s₀ k.val) (at64 X k.val) := if_pos hI'
    refine ⟨?_, ?_, hacts⟩
    · rw [hnext, e9, e8, e6, e5]
      rw [hwB, hwS, ed]
      have := holds_insert (size_states h960 k.val).1 hI.holds hx hy ⟨n, hnl⟩ en.symm (k0_pay19 k0_pay35 (BitVec.ofNat 32 n) d8)
        (k0_pay24 k0_pay35 (BitVec.ofNat 32 n) d8) (k0_pay25 k0_pay35 (BitVec.ofNat 32 n) d8) (k0_pay26 k0_pay35 k0_pay36 cB (BitVec.ofNat 32 n) d8)
        (by rw [ed] at hwS; exact hwS)
      rw [← en, ← hLd_at c arg6 f6] at this
      exact this
    · rw [hnext]
      show szNext _ _ _ _ _ _ = BitVec.ofNat 32 ((states p X s₀ k.val).n + 1)
      rw [← en]; exact hsz'
  · have h2 := (cond2_iff _ _ _).mpr h1
    refine (trip_update (F := Ideal) c arg0 harg0 arg1 harg1 arg2 harg2 arg3 harg3 arg4 harg4 arg5 harg5 arg6 harg6 arg7 harg7 arg8 harg8 arg9 harg9
      p.eb p.en p.tb p.tn p.ka k0_pay35 k0_pay36 irow iacts cB k (BitVec.ofNat 32 n) a d8 f1 f5 f6 f8 f9 ⟨k.val, hk⟩ ⟨min (k.val + 1) 63, by omega⟩ _ _
      ht ht' hb hs hchk h1 h2).trans (wp_mono _ _ _ fun r => ?_)
    iintro ⟨%g5, %g6, %g8, %g9, H, %hr⟩
    iexists g5, g6, g8, g9
    isplitl [H]
    · iexact H
    ipureintro
    obtain ⟨er, e5, e6, e8, e9⟩ := hr
    subst er
    have hsz' : szNext (F := Ideal) k0_pay35 k0_pay36 cB (BitVec.ofNat 32 n) d8 (hLd c arg6 f6) = BitVec.ofNat 32 n := by
      unfold szNext
      refine if_neg fun q => h1 ((cond1_iff _ _ _).mpr ?_)
      obtain ⟨q1, q3⟩ := andi_one.mp q
      obtain ⟨q1, q2⟩ := andi_one.mp q1
      exact ⟨q1, q2, q3⟩
    have hI' := mt hIns.mpr h1
    have hnext : states p X s₀ (k.val + 1) = upd p (states p X s₀ k.val) (at64 X k.val) := if_neg hI'
    refine ⟨?_, ?_, hacts⟩
    · rw [hnext, e9, e8, e6, e5]
      rw [hwB, hwS, ed]
      have := holds_update (p := p) (size_states h960 k.val).1 hI.holds hx hy
        (wBf (F := Ideal) k0_pay35 k0_pay36 cB (BitVec.ofNat 32 n) d8 (hLd c arg6 f6)) (by rw [hwF, ed, eh]; rfl)
      rw [← hLd_at c arg6 f6] at this
      exact this
    · rw [hnext]
      show szNext _ _ _ _ _ _ = BitVec.ofNat 32 (states p X s₀ k.val).n
      rw [← en]; exact hsz'

end Run

end Cert.Proof.Reading
end
-- ==== Proof.Body.lean ====
/- The kernel's body from start to end: what it leaves in its three results. -/
module

public import proofs.«01_k».proof.Proof.Loop
public import proofs.«01_k».proof.Proof.Gen.KernelIdeal.Frame

@[expose] public section

set_option maxRecDepth 16384

noncomputable section

namespace Cert.Proof.Reading

open Cert.KernelIdeal Cert.KernelIdeal.Gen Cert.Proof.Model Cert.Proof.Order Cert.Proof.Pick Cert.Proof.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The five step sizes. -/
def parOf (x : Vec Ideal S5 .f32) : Par := ⟨x (ValueIdx.ix1 0), x (ValueIdx.ix1 1), x (ValueIdx.ix1 2), x (ValueIdx.ix1 3), x (ValueIdx.ix1 4)⟩

/-- The samples. -/
def samples (x : Vec Ideal S64x512 .f32) (i : Fin 64) (k : Fin 512) : EReal := x (Idealize.ShloMosaic.ix2 i k)

/-- The network the kernel starts from. -/
def start (V : Vec Ideal S1024x512 .f32) (h : Vec Ideal S8x128 .f32) (E : Vec Ideal S1024x1024 .i32) : St where
  V i k := V (Idealize.ShloMosaic.ix2 i k)
  h := flat h
  L i j := Live (E (Idealize.ShloMosaic.ix2 i j))
  n := 960

section
variable (c : Dev nD) (arg0 : Memref sig .tc .smem S5 .f32) (harg0 : arg0.IsWhole) (arg1 : Memref sig .tc .vmem S64x512 .f32) (harg1 : arg1.IsWhole) (arg2 : Memref sig .tc .vmem S1024x512 .f32) (harg2 : arg2.IsWhole) (arg3 : Memref sig .tc .vmem S8x128 .f32) (harg3 : arg3.IsWhole) (arg4 : Memref sig .tc .vmem S1024x1024 .i32) (harg4 : arg4.IsWhole) (arg5 : Memref sig .tc .vmem S1024x512 .f32) (harg5 : arg5.IsWhole) (arg6 : Memref sig .tc .vmem S8x128 .f32) (harg6 : arg6.IsWhole) (arg7 : Memref sig .tc .vmem S1x64 .f32) (harg7 : arg7.IsWhole) (arg8 : Memref sig .tc .vmem S1024x1024 .i32) (harg8 : arg8.IsWhole) (arg9 : Memref sig .tc .vmem S8x128 .f32) (harg9 : arg9.IsWhole)
  (x0 : Vec Ideal S5 .f32) (x1 : Vec Ideal S64x512 .f32) (x2 : Vec Ideal S1024x512 .f32) (x3 : Vec Ideal S8x128 .f32) (x4 : Vec Ideal S1024x1024 .i32)

/-- The nodes at the end. -/
def endV (p : Par) (X : Fin 64 → Fin 512 → EReal) (s : St) : Vec Ideal S1024x512 .f32 := fun y => (states p X s 64).V (y 0) (y 1)
/-- The levels at the end. -/
def endH (p : Par) (X : Fin 64 → Fin 512 → EReal) (s : St) : Vec Ideal S8x128 .f32 := fun y => (states p X s 64).h (fl (y 0) (y 1))
/-- The activations. -/
def endA (p : Par) (X : Fin 64 → Fin 512 → EReal) (s : St) : Vec Ideal S1x64 .f32 := fun y => Model.acts p X s (y 1).val

theorem at_start (p : Par) (f1 : Buf (Elt Ideal) (arg1.view.loc (c : Thread nD τ))) {V : Vec Ideal S1024x512 .f32} {h : Vec Ideal S8x128 .f32} {E : Vec Ideal S1024x1024 .i32}
    {y : Vec Ideal S1x512 .f32} {W : Vec Ideal S1024x512 .f32} (hy : y = rowOf x1 0) (hW : W = x2) (hV : V = x2) (hh : h = x3) (hE : E = x4) :
    At p (samples x1) (start x2 x3 x4) 0 V h E (960#32, k0_pay1 (F := Ideal), k0_pay37 (F := Ideal) y W) := by
  subst hy hW hV hh hE
  refine ⟨⟨fun _ _ => rfl, reg_flat _, fun _ _ => Iff.rfl, ?_⟩, rfl, fun j => ?_⟩
  · exact dist8_first (f := at64 (samples x1) 0) (W := (start V h E).V) (fun _ => rfl) (fun _ _ => rfl)
  · rw [if_neg (Nat.not_lt_zero _)]
    pointwise [k0_pay1]

theorem body_run (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (endV (parOf x0) (samples x1) (start x2 x3 x4))
            ∗ owns (c : Thread nD τ) arg6 fullShare (endH (parOf x0) (samples x1) (start x2 x3 x4))
            ∗ owns (c : Thread nD τ) arg7 fullShare (endA (parOf x0) (samples x1) (start x2 x3 x4))
            ∗ (∃ d, owns (c : Thread nD τ) arg8 fullShare d) ∗ (∃ d, owns (c : Thread nD τ) arg9 fullShare d)) -∗ K ⟨⟩))
      ⊢ wp Idealize.ShloMosaic.frame (wpE (defs₀ (F := Ideal)) 𝒱₀ (c : Thread nD τ) none) Set.univ
        (cc0__gwr_body (F := Ideal) arg0 harg0 arg1 harg1 arg2 harg2 arg3 harg3 arg4 harg4 arg5 harg5 arg6 harg6 arg7 harg7 arg8 harg8 arg9 harg9) K := by
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  sl_unfold [cc0__gwr_body]
  sl_exec!
  rw [wp_bind]
  have p0 : body_run.sl.r c arg0 f0 = (parOf x0).eb := by rw [← hf0]; exact congrArg (arg0.view.read (Elt Ideal) f0) (funext fun a => by match a with | ⟨0, _⟩ => rfl)
  have p1 : body_run.sl.r_1 c arg0 f0 = (parOf x0).en := by rw [← hf0]; exact congrArg (arg0.view.read (Elt Ideal) f0) (funext fun a => by match a with | ⟨0, _⟩ => rfl)
  have p2 : body_run.sl.r_2 c arg0 f0 = (parOf x0).tb := by rw [← hf0]; exact congrArg (arg0.view.read (Elt Ideal) f0) (funext fun a => by match a with | ⟨0, _⟩ => rfl)
  have p3 : body_run.sl.r_3 c arg0 f0 = (parOf x0).tn := by rw [← hf0]; exact congrArg (arg0.view.read (Elt Ideal) f0) (funext fun a => by match a with | ⟨0, _⟩ => rfl)
  have p4 : body_run.sl.r_4 c arg0 f0 = (parOf x0).ka := by rw [← hf0]; exact congrArg (arg0.view.read (Elt Ideal) f0) (funext fun a => by match a with | ⟨0, _⟩ => rfl)
  rw [p0, p1, p2, p3, p4]
  iapply (Scf.wp_for Idealize.ShloMosaic.frame (wpE (defs₀ (F := Ideal)) 𝒱₀ (c : Thread nD τ) none) Set.univ k0_t1_loop.lb k0_t1_loop.ub k0_t1_loop.st k0_t1_ok
    (960#32, k0_pay1, body_run.sl.r_5 c arg1 arg2 arg5 f1 f2)
    (k0_t1_body (F := Ideal) arg0 harg0 arg1 harg1 arg2 harg2 arg3 harg3 arg4 harg4 arg5 harg5 arg6 harg6 arg7 harg7 arg8 harg8 arg9 harg9
      (parOf x0).eb (parOf x0).en (parOf x0).tb (parOf x0).tn (parOf x0).ka k0_pay35 k0_pay36 irow iacts cB)
    (fun k acc => iprop(∃ g5 g6 g8 g9, Bufs c arg1 arg5 arg6 arg8 arg9 f1 g5 g6 g8 g9
      ∗ ⌜At (parOf x0) (samples x1) (start x2 x3 x4) k (arg5.view.read (Elt Ideal) g5) (arg6.view.read (Elt Ideal) g6) (arg8.view.read (Elt Ideal) g8) acc⌝))
    (fun k acc => by
      iintro ⟨%g5, %g6, %g8, %g9, H, %hI⟩
      iapply (trip_at c arg0 harg0 arg1 harg1 arg2 harg2 arg3 harg3 arg4 harg4 arg5 harg5 arg6 harg6 arg7 harg7 arg8 harg8 arg9 harg9
        (parOf x0) (samples x1) (start x2 x3 x4) rfl k acc f1 g5 g6 g8 g9 (fun i k => by rw [hf1]; rfl) hI)
      iexact H))
  isplitl [H1 H5 H6 H8 H9]
  · iexists _, _, _, _
    isplitl [H1 H5 H6 H8 H9]
    · isplitl [H1]
      · iexact H1
      isplitl [H5]
      · iexact H5
      isplitl [H6]
      · iexact H6
      isplitl [H8]
      · iexact H8
      iexact H9
    ipureintro
    have e2 : arg2.view.readAt (Elt Ideal) (Rect.unit (s := S1024x512) ![0, 0] S1024x512.size inb_S1024x512_S1024x512_0_0).toLoadRect f2 = x2 :=
      (View.readAt_full arg2.view _ _).trans hf2
    refine at_start c arg1 x1 x2 x3 x4 (parOf x0) f1 ?_ ?_ ?_ ?_ ?_
    · rw [← hf1]; exact readAt_row arg1.view f1 0 rfl _
    · exact (View.readCov_full arg5.view _ _ _ _).trans e2
    · exact (View.read_writes_full arg5.view _ _ _ _).trans e2
    · refine (View.read_writes_full arg6.view _ _ _ _).trans ?_
      show k0_pay33 (F := Ideal) _ = x3
      unfold k0_pay33
      exact (shapeCast_self _ _).trans ((View.readAt_full arg3.view _ _).trans hf3)
    · refine (View.read_writes_full arg8.view _ _ _ _).trans ?_
      show k0_pay34 (F := Ideal) _ = x4
      unfold k0_pay34
      exact (shapeCast_self _ _).trans ((View.readAt_full arg4.view _ _).trans hf4)
  iintro %acc ⟨%g5, %g6, %g8, %g9, ⟨H1, H5, H6, H8, H9⟩, %hI⟩
  obtain ⟨sz, a, d⟩ := acc
  dsimp only
  sl_exec!
  sl_step
  iapply Hk
  isplitl [H0]
  · iexists _
    isplitr
    · ipureintro; exact hf0
    iexact H0
  isplitl [H1]
  · iexists _
    isplitr
    · ipureintro; exact hf1
    iexact H1
  isplitl [H2]
  · iexists _
    isplitr
    · ipureintro; exact hf2
    iexact H2
  isplitl [H3]
  · iexists _
    isplitr
    · ipureintro; exact hf3
    iexact H3
  isplitl [H4]
  · iexists _
    isplitr
    · ipureintro; exact hf4
    iexact H4
  rw [show Scf.trips k0_t1_loop.lb k0_t1_loop.ub k0_t1_loop.st = 64 from trips_eq] at hI
  isplitl [H5]
  · iexists _
    isplitr
    rotate_left
    · iexact H5
    ipureintro
    funext y
    rw [← ix2_eta y]
    exact hI.holds.V _ _
  isplitl [H6]
  · iexists _
    isplitr
    rotate_left
    · iexact H6
    ipureintro
    funext y
    rw [← ix2_eta y]
    exact hI.holds.h _ _
  isplitl [H7]
  · iexists _
    isplitr
    rotate_left
    · iexact H7
    ipureintro
    refine (View.read_writes_full arg7.view _ _ _ _).trans ?_
    funext y
    have e : y = Idealize.ShloMosaic.ix2 0 (y 1) := by
      funext a
      match a with
      | ⟨0, _⟩ => exact Subsingleton.elim (α := Fin 1) _ _
      | ⟨1, _⟩ => rfl
    exact (congrArg a e).trans ((hI.acts (y 1)).trans (if_pos (y 1).isLt))
  isplitl [H8]
  · iexists (arg8.view.read (Elt Ideal) g8), g8
    isplitr
    rotate_left
    · iexact H8
    ipureintro
    rfl
  iexists (arg9.view.read (Elt Ideal) g9), g9
  isplitr
  rotate_left
  · iexact H9
  ipureintro
  rfl

end
end Cert.Proof.Reading
end
-- ==== Proof.Launched.lean ====
/- The kernel launched: its whole run, with what its results hold and everything else as it was. -/
module

public import proofs.«01_k».proof.Proof.Body
public import Idealize.ShloMosaic.Lib.Pipeline.Value
public import Idealize.ShloMosaic.Lib.Claim
public import Idealize.ShloMosaic.Lib.Quiescent

@[expose] public section

set_option maxRecDepth 16384

noncomputable section

namespace Cert.Proof.Launched

open Cert.KernelIdeal Cert.KernelIdeal.Gen Cert.Proof.Model Cert.Proof.Order Cert.Proof.KernelIdeal Cert.Proof.Reading
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

local notation "𝕄" => MT nD τ sig Unit (Elt Ideal) ℕ (UR sig nD τ) ℕ

variable (m : (ℓ : Loc nD τ sig) → Buf (Elt Ideal) ℓ) (ρ : Dev nD → PrngReg)

/-- The step sizes at the launch. -/
def par (c : Dev nD) (t : Fin cfg0.N) : Par := parOf (iblk m c 0 t)
/-- The samples at the launch. -/
def smp (c : Dev nD) (t : Fin cfg0.N) : Fin 64 → Fin 512 → EReal := samples (iblk m c 1 t)
/-- The network at the launch. -/
def net (c : Dev nD) (t : Fin cfg0.N) : St := start (iblk m c 2 t) (iblk m c 3 t) (iblk m c 4 t)

/-- The arrays as launched; after the body the inputs' blocks as they were and the three results at the network's end. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => endV (par m c t) (smp m c t) (net m c t)
    | ⟨6, _⟩ => endH (par m c t) (smp m c t) (net m c t)
    | ⟨7, _⟩ => endA (par m c t) (smp m c t) (net m c t)
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = endV (par m c t) (smp m c t) (net m c t) := by dsimp only [dats]
theorem after0_6 (c : Dev nD) (t : Fin cfg0.N) : (dats m 0 c).after 6 t = endH (par m c t) (smp m c t) (net m c t) := by dsimp only [dats]
theorem after0_7 (c : Dev nD) (t : Fin cfg0.N) : (dats m 0 c).after 7 t = endA (par m c t) (smp m c t) (net m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The body at the launch: the scratch buffers come out of what the kernel owns besides its windows, and go back. -/
theorem body_obligation (c : Dev nD) : BodyObligation (dats m 0 c) (defs₀ (F := Ideal)) 𝒱₀ () Set.univ := fun t => by
  rw [bigSep_W0, bigSep_W0]
  sl_whnfR [defs₀, Defs.onTc]
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7]
  unfold par smp net Pipeline.ΦA
  rw [scopedRest0_eq]
  iintro ⟨⟨⟨⟨%s8, S8⟩, ⟨%s9, S9⟩⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c _ _ _ _ _ _ _ _ _ _ _ _ _ _ _ _ _ _ _ _ (iblk m c 0 t) (iblk m c 1 t) (iblk m c 2 t) (iblk m c 3 t) (iblk m c 4 t) _)
  isplitl [H0]
  · iexact H0
  isplitl [H1]
  · iexact H1
  isplitl [H2]
  · iexact H2
  isplitl [H3]
  · iexact H3
  isplitl [H4]
  · iexact H4
  isplitl [H5]
  · iexists _; iexact H5
  isplitl [H6]
  · iexists _; iexact H6
  isplitl [H7]
  · iexists _; iexact H7
  isplitl [S8]
  · iexists s8; rw [owns_whole]; iexact S8
  isplitl [S9]
  · iexists s9; rw [owns_whole]; iexact S9
  iintro ⟨H0, H1, H2, H3, H4, H5, H6, H7, ⟨%e8, S8⟩, ⟨%e9, S9⟩⟩
  isplitl [S8 S9 HR]
  · isplitl [S8 S9]
    · isplitl [S8]
      · iexists e8; rw [← owns_whole (c : Thread nD τ) cc0_scratch0 fullShare e8]; iexact S8
      iexists e9; rw [← owns_whole (c : Thread nD τ) cc0_scratch1 fullShare e9]; iexact S9
    iexact HR
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  iexact H7

set_option backward.isDefEq.respectTransparency.types false in
/-- The whole run from any memory with all counters at zero. -/
theorem run_main : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) sfx_sub sfx_fresh sfx_keeps (hmain := hmain m 𝒱₀) (hA := fun _ _ => rfl) (hΦ := fun _ _ => rfl)

/-- The arguments end as they were and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_with_sems (frame_of m ρ (dats m) fun _ _ => rfl) (run_main m ρ)

/-! ## What the results hold -/

theorem flushed5 (c : Dev nD) (t : Fin cfg0.N) :
    (dats m 0 c).flushed 5 t = ((cfg0.win 5).blk t).view.read (Elt Ideal) (endV (par m c t0_0) (smp m c t0_0) (net m c t0_0)) := by
  obtain rfl : t = t0_0 := fin_N0 t
  show (cfg0.win 5).cut (grid0.coords t0_0) ((dats m 0 c).after 5 t0_0) = _
  rw [after0_5]
  have hz : (fun a => win0_5.index t0_0 a * main_v7_0.ty.shape.size a) = fun _ => 0 := funext fun a => by fin_cases a <;> decide
  exact (Memref.read_access_unit_zero (Elt Ideal) main_v7_0 hz (fun a => by rw [congrFun hz a]; simp) (endV (par m c t0_0) (smp m c t0_0) (net m c t0_0))).symm

theorem final5 (c : Dev nD) : (dats m 0 c).arrAt 5 cfg0.N = endV (par m c t0_0) (smp m c t0_0) (net m c t0_0) :=
  (dats m 0 c).arrAt_eq_of_cover 5 _ (fun t _ => flushed5 m c t) fun i => ⟨t0_0, flush0_5 t0_0, by
    show i ∈ ((View.whole main_v7_0).slice (win0_5.rect t0_0)).set
    rw [View.set_slice_whole, Rect.mem_set_unit]
    intro a
    have h0 : (i 0 : Nat) < 1024 := (i 0).isLt
    have h1 : (i 1 : Nat) < 512 := (i 1).isLt
    match a with
    | ⟨0, _⟩ =>
      show 0 ≤ (i 0 : Nat) ∧ (i 0 : Nat) < 0 + 1024
      omega
    | ⟨1, _⟩ =>
      show 0 ≤ (i 1 : Nat) ∧ (i 1 : Nat) < 0 + 512
      omega⟩

theorem flushed6 (c : Dev nD) (t : Fin cfg0.N) :
    (dats m 0 c).flushed 6 t = ((cfg0.win 6).blk t).view.read (Elt Ideal) (endH (par m c t0_0) (smp m c t0_0) (net m c t0_0)) := by
  obtain rfl : t = t0_0 := fin_N0 t
  show (cfg0.win 6).cut (grid0.coords t0_0) ((dats m 0 c).after 6 t0_0) = _
  rw [after0_6]
  have hz : (fun a => win0_6.index t0_0 a * main_v7_1.ty.shape.size a) = fun _ => 0 := funext fun a => by fin_cases a <;> decide
  exact (Memref.read_access_unit_zero (Elt Ideal) main_v7_1 hz (fun a => by rw [congrFun hz a]; simp) (endH (par m c t0_0) (smp m c t0_0) (net m c t0_0))).symm

theorem final6 (c : Dev nD) : (dats m 0 c).arrAt 6 cfg0.N = endH (par m c t0_0) (smp m c t0_0) (net m c t0_0) :=
  (dats m 0 c).arrAt_eq_of_cover 6 _ (fun t _ => flushed6 m c t) fun i => ⟨t0_0, flush0_6 t0_0, by
    show i ∈ ((View.whole main_v7_1).slice (win0_6.rect t0_0)).set
    rw [View.set_slice_whole, Rect.mem_set_unit]
    intro a
    have h0 : (i 0 : Nat) < 8 := (i 0).isLt
    have h1 : (i 1 : Nat) < 128 := (i 1).isLt
    match a with
    | ⟨0, _⟩ =>
      show 0 ≤ (i 0 : Nat) ∧ (i 0 : Nat) < 0 + 8
      omega
    | ⟨1, _⟩ =>
      show 0 ≤ (i 1 : Nat) ∧ (i 1 : Nat) < 0 + 128
      omega⟩

theorem flushed7 (c : Dev nD) (t : Fin cfg0.N) :
    (dats m 0 c).flushed 7 t = ((cfg0.win 7).blk t).view.read (Elt Ideal) (endA (par m c t0_0) (smp m c t0_0) (net m c t0_0)) := by
  obtain rfl : t = t0_0 := fin_N0 t
  show (cfg0.win 7).cut (grid0.coords t0_0) ((dats m 0 c).after 7 t0_0) = _
  rw [after0_7]
  have hz : (fun a => win0_7.index t0_0 a * main_v7_2.ty.shape.size a) = fun _ => 0 := funext fun a => by fin_cases a <;> decide
  exact (Memref.read_access_unit_zero (Elt Ideal) main_v7_2 hz (fun a => by rw [congrFun hz a]; simp) (endA (par m c t0_0) (smp m c t0_0) (net m c t0_0))).symm

theorem final7 (c : Dev nD) : (dats m 0 c).arrAt 7 cfg0.N = endA (par m c t0_0) (smp m c t0_0) (net m c t0_0) :=
  (dats m 0 c).arrAt_eq_of_cover 7 _ (fun t _ => flushed7 m c t) fun i => ⟨t0_0, flush0_7 t0_0, by
    show i ∈ ((View.whole main_v7_2).slice (win0_7.rect t0_0)).set
    rw [View.set_slice_whole, Rect.mem_set_unit]
    intro a
    have h0 : (i 0 : Nat) < 1 := (i 0).isLt
    have h1 : (i 1 : Nat) < 64 := (i 1).isLt
    match a with
    | ⟨0, _⟩ =>
      show 0 ≤ (i 0 : Nat) ∧ (i 0 : Nat) < 0 + 1
      omega
    | ⟨1, _⟩ =>
      show 0 ≤ (i 1 : Nat) ∧ (i 1 : Nat) < 0 + 64
      omega⟩

theorem blk0 (c : Dev nD) : iblk m c 0 t0_0 = V m c main_v5 := by
  have hz : (fun a => win0_0.index t0_0 a * main_v5.ty.shape.size a) = fun _ => 0 := funext fun a => by fin_cases a <;> decide
  exact Memref.read_access_unit_zero (Elt Ideal) main_v5 hz (fun a => by rw [congrFun hz a]; simp) (V m c main_v5)

theorem blk1 (c : Dev nD) : iblk m c 1 t0_0 = V m c main_arg1 := by
  have hz : (fun a => win0_1.index t0_0 a * main_arg1.ty.shape.size a) = fun _ => 0 := funext fun a => by fin_cases a <;> decide
  exact Memref.read_access_unit_zero (Elt Ideal) main_arg1 hz (fun a => by rw [congrFun hz a]; simp) (V m c main_arg1)

theorem blk2 (c : Dev nD) : iblk m c 2 t0_0 = V m c main_arg2 := by
  have hz : (fun a => win0_2.index t0_0 a * main_arg2.ty.shape.size a) = fun _ => 0 := funext fun a => by fin_cases a <;> decide
  exact Memref.read_access_unit_zero (Elt Ideal) main_arg2 hz (fun a => by rw [congrFun hz a]; simp) (V m c main_arg2)

theorem blk3 (c : Dev nD) : iblk m c 3 t0_0 = V m c main_v6 := by
  have hz : (fun a => win0_3.index t0_0 a * main_v6.ty.shape.size a) = fun _ => 0 := funext fun a => by fin_cases a <;> decide
  exact Memref.read_access_unit_zero (Elt Ideal) main_v6 hz (fun a => by rw [congrFun hz a]; simp) (V m c main_v6)

theorem blk4 (c : Dev nD) : iblk m c 4 t0_0 = V m c main_arg4 := by
  have hz : (fun a => win0_4.index t0_0 a * main_arg4.ty.shape.size a) = fun _ => 0 := funext fun a => by fin_cases a <;> decide
  exact Memref.read_access_unit_zero (Elt Ideal) main_arg4 hz (fun a => by rw [congrFun hz a]; simp) (V m c main_arg4)

theorem V_main_v6 (c : Dev nD) : V m c main_v6 = shapeCast S8x128 (m ((c : Thread nD τ).loc main_arg3)) shapeCasts_S1024_S8x128 := by
  entry_read
  rfl

/-- A scalar's one value. -/
abbrev the {α : Type} (x : S_.Idx → α) : α := x fun a => a.elim0

theorem parOf_five (x0 x1 x2 x3 x4 : FVec Ideal S1 .f32) :
    parOf (concatenate (α := EReal) S5 0 [⟨S1, x0⟩, ⟨S1, x1⟩, ⟨S1, x2⟩, ⟨S1, x3⟩, ⟨S1, x4⟩] concatenates_S1_S1_S1_S1_S1_S5_d0)
      = ⟨x0 (ValueIdx.ix1 0), x1 (ValueIdx.ix1 0), x2 (ValueIdx.ix1 0), x3 (ValueIdx.ix1 0), x4 (ValueIdx.ix1 0)⟩ := by
  unfold parOf
  congr 1
  all_goals
    pointwise []
    rfl

theorem par_eq (c : Dev nD) : par m c t0_0 = ⟨the (m ((c : Thread nD τ).loc main_arg5)), the (m ((c : Thread nD τ).loc main_arg6)),
    the (m ((c : Thread nD τ).loc main_arg7)), the (m ((c : Thread nD τ).loc main_arg8)), the (m ((c : Thread nD τ).loc main_arg9))⟩ := by
  have hb : ∀ x : S_.Idx → EReal, broadcastInDim (α := EReal) S1 ![] bcast_S_S1 x = fun _ => the x := fun x => funext fun y =>
    congrArg x (funext fun a => a.elim0)
  unfold par
  rw [blk0]
  simp only [V0, V, hostOps0, List.flatten_cons, List.flatten_nil, List.append_nil, List.cons_append, List.nil_append]
  after_results
  dsimp only [Matrix.cons_val]
  repeat (first | rw [StableHlo.unary_result] | (rw [StableHlo.unary_result_ne]; rotate_left; decide))
  refine (parOf_five _ _ _ _ _).trans ?_
  simp only [hb]

theorem smp_eq (c : Dev nD) : smp m c t0_0 = samples (m ((c : Thread nD τ).loc main_arg1)) := by
  unfold smp
  rw [blk1, V_main_arg1]

theorem net_eq (c : Dev nD) : net m c t0_0 = start (m ((c : Thread nD τ).loc main_arg2))
    (shapeCast S8x128 (m ((c : Thread nD τ).loc main_arg3)) shapeCasts_S1024_S8x128) (m ((c : Thread nD τ).loc main_arg4)) := by
  unfold net
  rw [blk2, blk3, blk4, V_main_arg2, V_main_v6, V_main_arg4]

theorem W_main_v8 (c : Dev nD) : Pipeline.afterTail₀ cfgs (dats m) 0 (V0 m) [hostOps1] c main_v8
    = shapeCast S1024 (endH (par m c t0_0) (smp m c t0_0) (net m c t0_0)) shapeCasts_S8x128_S1024 := by
  unfold Pipeline.afterTail₀
  simp only [hostOps1, List.flatten_cons, List.flatten_nil, List.append_nil, List.cons_append, List.nil_append]
  after_results
  rw [show Pipeline.withArrays (cfgs 0).spec c (V0 m c) (fun w => (dats m 0 c).arrAt w (cfgs 0).N) (Proc.tc.devRef main_v7_1) = _
    from Pipeline.withArrays_arr spec0 launch0.win.arr_inj c (V0 m c) _ 6]
  rw [show (dats m 0 c).arrAt 6 (cfgs 0).N = _ from final6 m c]
  rfl

theorem W_main_v9 (c : Dev nD) : Pipeline.afterTail₀ cfgs (dats m) 0 (V0 m) [hostOps1] c main_v9
    = shapeCast S64 (endA (par m c t0_0) (smp m c t0_0) (net m c t0_0)) shapeCasts_S1x64_S64 := by
  unfold Pipeline.afterTail₀
  simp only [hostOps1, List.flatten_cons, List.flatten_nil, List.append_nil, List.cons_append, List.nil_append]
  after_results
  rw [show Pipeline.withArrays (cfgs 0).spec c (V0 m c) (fun w => (dats m 0 c).arrAt w (cfgs 0).N) (Proc.tc.devRef main_v7_2) = _
    from Pipeline.withArrays_arr spec0 launch0.win.arr_inj c (V0 m c) _ 7]
  rw [show (dats m 0 c).arrAt 7 (cfgs 0).N = _ from final7 m c]
  rfl

/-- The network after the last sample. -/
def last (c : Dev nD) : St := states (par m c t0_0) (smp m c t0_0) (net m c t0_0) 64

/-- The whole run: the three results at the end of the network, the arguments as they were. -/
theorem run : θ_run defs (onTc (τ := τ) (main (F := Ideal))) ⟨m, fun _ => 0, ρ⟩ (fun r => ∀ c : Dev nD,
      r.2.mem ((c.tc : Thread nD τ).loc main_v7_0) = endV (par m c t0_0) (smp m c t0_0) (net m c t0_0)
      ∧ r.2.mem ((c.tc : Thread nD τ).loc main_v8) = shapeCast S1024 (endH (par m c t0_0) (smp m c t0_0) (net m c t0_0)) shapeCasts_S8x128_S1024
      ∧ r.2.mem ((c.tc : Thread nD τ).loc main_v9) = shapeCast S64 (endA (par m c t0_0) (smp m c t0_0) (net m c t0_0)) shapeCasts_S1x64_S64) :=
  (θ_run defs _ _).mono (fun _ h c => ⟨((h.1 c).1 5).trans (final5 m c),
      ((h.1 c).2 main_v8 (Pipeline.mem_restRefs_of main_v8 (by decide) (by decide))).trans (W_main_v8 m c),
      ((h.1 c).2 main_v9 (Pipeline.mem_restRefs_of main_v9 (by decide) (by decide))).trans (W_main_v9 m c)⟩) (run_main m ρ)

end Cert.Proof.Launched
end
-- ==== Proof.Top.lean ====
/- The two least of a table, as a stable descending sort of its negation leaves them. -/
module

public import proofs.«01_k».proof.Proof.Order
public import Idealize.ShloMosaic.Lib.PlanTiles.StableSort

@[expose] public section

noncomputable section

namespace Cert.Proof.Top

open Idealize.ShloMosaic Cert.Proof.Model Cert.Proof.Order

variable (f : Fin 1024 → EReal)

open Classical in
/-- How many entries lie above entry `i`. -/
def above (i : Fin 1024) : ℕ := (Finset.univ.filter fun j => f i < f j).card

theorem above_lt {i j : Fin 1024} : above f j < above f i ↔ f i < f j := by
  classical
  constructor
  · intro h
    by_contra hle
    have hle : f j ≤ f i := not_lt.mp hle
    refine absurd h (not_lt.mpr (Finset.card_le_card fun k hk => ?_))
    have := (Finset.mem_filter.mp hk).2
    exact Finset.mem_filter.mpr ⟨Finset.mem_univ _, hle.trans_lt this⟩
  · intro h
    refine Finset.card_lt_card ⟨fun k hk => ?_, fun hs => ?_⟩
    · exact Finset.mem_filter.mpr ⟨Finset.mem_univ _, h.trans (Finset.mem_filter.mp hk).2⟩
    · exact lt_irrefl _ (Finset.mem_filter.mp (hs (Finset.mem_filter.mpr ⟨Finset.mem_univ j, h⟩))).2

/-- "Sorts before": a lower entry first. -/
def before (a b : Fin 1024) : Bool := decide (above f b < above f a)

theorem sorted_lex {n : ℕ} (G : Fin n → ℕ) {i j : Fin n} (h : i < j) :
    PlanTiles.Lex G (· < ·) (sortedFrom (fun a b => decide (G b < G a)) i) (sortedFrom (fun a b => decide (G b < G a)) j) := by
  have hp : ∀ a b : Fin (sortPositions n fun a b => decide (G b < G a)).length, a < b → PlanTiles.Lex G (· < ·) _ _ :=
    List.pairwise_iff_get.mp (PlanTiles.pairwise_stableSort_lex G (· < ·) (List.finRange n) (List.pairwise_lt_finRange n))
  unfold sortedFrom
  exact hp _ _ (by simp only [Fin.lt_def, Fin.val_cast]; exact h)

/-- Place `i` of the sorted table stands before place `j` after it: lower, or as low and earlier. -/
theorem sorted {i j : Fin 1024} (h : i < j) :
    f (sortedFrom (before f) i) < f (sortedFrom (before f) j) ∨
      (f (sortedFrom (before f) i) = f (sortedFrom (before f) j) ∧ sortedFrom (before f) i < sortedFrom (before f) j) := by
  have hl : PlanTiles.Lex (above f) (· < ·) (sortedFrom (before f) i) (sortedFrom (before f) j) := sorted_lex (above f) h
  generalize sortedFrom (before f) i = a at hl ⊢
  generalize sortedFrom (before f) j = b at hl ⊢
  rcases hl with h1 | ⟨h1, h2⟩
  · exact .inl ((above_lt f).mp h1)
  · exact .inr ⟨le_antisymm (not_lt.mp fun h3 => absurd ((above_lt f).mpr h3) h1.not_lt)
      (not_lt.mp fun h3 => absurd ((above_lt f).mpr h3) h1.not_gt), h2⟩

theorem sorted_first : sortedFrom (before f) 0 = first f := by
  refine First.eq fun j => ?_
  obtain ⟨k, rfl⟩ := sortedFrom_surjective (before f) j
  by_cases hk : k = 0
  · subst hk; exact ⟨le_rfl, fun _ => le_rfl⟩
  · rcases sorted f (Fin.pos_of_ne_zero hk) with h | ⟨h, h'⟩
    · exact ⟨h.le, fun e => absurd e h.ne'⟩
    · exact ⟨h.le, fun _ => h'.le⟩

theorem sorted_second : sortedFrom (before f) 1 = second f := by
  refine Second.eq ⟨fun h => ?_, fun j hj => ?_⟩
  · rw [← sorted_first f] at h
    exact absurd (sortedFrom_injective _ h) (by decide)
  · obtain ⟨k, rfl⟩ := sortedFrom_surjective (before f) j
    rw [← sorted_first f] at hj
    have h0 : k ≠ 0 := fun e => hj (by rw [e])
    by_cases hk : k = 1
    · subst hk; exact ⟨le_rfl, fun _ => le_rfl⟩
    · have h1 : (1 : Fin 1024) < k := by
        rw [Fin.lt_def]
        have a : k.val ≠ 0 := fun e => h0 (Fin.ext e)
        have b : k.val ≠ 1 := fun e => hk (Fin.ext e)
        show 1 < k.val
        omega
      rcases sorted f h1 with h | ⟨h, h'⟩
      · exact ⟨h.le, fun e => absurd e h.ne'⟩
      · exact ⟨h.le, fun _ => h'.le⟩

/-- Entry `i` of the greatest is entry `i` of the whole sort, whose second half carries the places. -/
theorem topK_at {n k : ℕ} {α : Type} (gt : α → α → BitVec 1) (x : (⟨1, ![n]⟩ : Shape).Idx → α)
    (h : Shape.Slices ⟨1, ![n]⟩ (fun _ => 0) ⟨1, ![k]⟩) (i : Fin k) :
    ∃ (j : (⟨1, ![n]⟩ : Shape).Idx) (y : (⟨1, ![n]⟩ : Shape).Idx → BitVec 32), (j 0).val = i.val ∧ (∀ l, y (ix1 l) = BitVec.ofNat 32 l.val)
      ∧ (Host.topK ⟨1, ![k]⟩ 0 gt x h).1 (ix1 i) = (Host.sort2 ⟨1, ![n]⟩ 0 (fun l r => gt l.1 r.1) x y).1 j
      ∧ (Host.topK ⟨1, ![k]⟩ 0 gt x h).2 (ix1 i) = (Host.sort2 ⟨1, ![n]⟩ 0 (fun l r => gt l.1 r.1) x y).2 j :=
  ⟨_, fun i => if hd : 0 < (⟨1, ![n]⟩ : Shape).rank then iotaInDim ⟨1, ![n]⟩ 32 ⟨0, hd⟩ i else 0#32, Nat.zero_add _, fun _ => rfl, rfl, rfl⟩

theorem sort_at {n : ℕ} {α β : Type} (cmp : α × β → α × β → BitVec 1) (x : (⟨1, ![n]⟩ : Shape).Idx → α) (y : (⟨1, ![n]⟩ : Shape).Idx → β)
    (j : (⟨1, ![n]⟩ : Shape).Idx) :
    (Host.sort2 ⟨1, ![n]⟩ 0 cmp x y).1 j
        = x (ix1 (sortedFrom (fun k k' => cmp (x (ix1 k), y (ix1 k)) (x (ix1 k'), y (ix1 k')) == 1#1) (j 0)))
    ∧ (Host.sort2 ⟨1, ![n]⟩ 0 cmp x y).2 j
        = y (ix1 (sortedFrom (fun k k' => cmp (x (ix1 k), y (ix1 k)) (x (ix1 k'), y (ix1 k')) == 1#1) (j 0))) := by
  have e : ∀ k : Fin n, j.along (0 : Fin 1) k = ix1 k := fun k => by
    rw [Shape.Idx.along_rank1]
    funext a
    fin_cases a
    rfl
  simp only [← e]
  exact ⟨rfl, rfl⟩

section Read
variable {f} {x : FVec Ideal ⟨1, ![1024]⟩ .f32} (hx : ∀ i, x (ix1 i) = -f i) (h : Shape.Slices ⟨1, ![1024]⟩ (fun _ => 0) ⟨1, ![2]⟩)
include hx

theorem before_eq :
    (fun k k' : Fin 1024 => (FloatOps.cmpfTotal (F := Ideal) (φ := .f32) .gt (x (ix1 k)) (x (ix1 k')) == 1#1)) = before f := by
  funext k k'
  rw [hx, hx]
  unfold before
  show (Ideal.cmp .ogt (-f k) (-f k') == 1#1) = _
  have ha := (above_lt f (i := k) (j := k')).trans EReal.neg_lt_neg_iff.symm
  by_cases hlt : -f k' < -f k
  · rw [decide_eq_true (ha.mpr hlt)]
    simp [Ideal.cmp, hlt]
  · rw [decide_eq_false fun h => hlt (ha.mp h)]
    simp [Ideal.cmp, hlt]

theorem topK_read (i : Fin 2) :
    (Host.topK ⟨1, ![2]⟩ 0 (FloatOps.cmpfTotal (F := Ideal) (φ := .f32) .gt) x h).1 (ix1 i)
      = -f (sortedFrom (before f) (i.castLE (by decide)))
    ∧ (Host.topK ⟨1, ![2]⟩ 0 (FloatOps.cmpfTotal (F := Ideal) (φ := .f32) .gt) x h).2 (ix1 i)
      = BitVec.ofNat 32 (sortedFrom (before f) (i.castLE (by decide))).val := by
  obtain ⟨j, y, hj, hy, h1, h2⟩ := topK_at (FloatOps.cmpfTotal (F := Ideal) (φ := .f32) .gt) x h i
  have e : j 0 = (i.castLE (by decide) : Fin 1024) := Fin.ext hj
  obtain ⟨s1, s2⟩ := sort_at (fun l r => FloatOps.cmpfTotal (F := Ideal) (φ := .f32) .gt l.1 r.1) x y j
  rw [h1, h2, s1, s2, hy, hx]
  dsimp only
  rw [before_eq hx, e]
  exact ⟨rfl, rfl⟩

theorem topK_first : (Host.topK ⟨1, ![2]⟩ 0 (FloatOps.cmpfTotal (F := Ideal) (φ := .f32) .gt) x h).2 (ix1 0) = BitVec.ofNat 32 (first f).val :=
  (topK_read hx h 0).2.trans (congrArg (fun k : Fin 1024 => BitVec.ofNat 32 k.val) (sorted_first f))
theorem topK_second : (Host.topK ⟨1, ![2]⟩ 0 (FloatOps.cmpfTotal (F := Ideal) (φ := .f32) .gt) x h).2 (ix1 1) = BitVec.ofNat 32 (second f).val :=
  (topK_read hx h 1).2.trans (congrArg (fun k : Fin 1024 => BitVec.ofNat 32 k.val) (sorted_second f))
theorem topK_least : (Host.topK ⟨1, ![2]⟩ 0 (FloatOps.cmpfTotal (F := Ideal) (φ := .f32) .gt) x h).1 (ix1 0) = -f (first f) :=
  (topK_read hx h 0).1.trans (congrArg (fun k : Fin 1024 => -f k) (sorted_first f))

end Read

end Cert.Proof.Top
end
-- ==== Proof.RefRead.lean ====
/- The reference's step, each of its named tensors read at a place. -/
module

public import proofs.«01_k».proof.Proof.Step
public import proofs.«01_k».proof.Proof.Top
public import proofs.«01_k».proof.Proof.Gen.ReferenceIdeal.Run
public import Idealize.ShloMosaic.Lib.DynamicIndex
public import Idealize.ShloMosaic.Lib.IdealHost

@[expose] public section

set_option maxRecDepth 16384

noncomputable section

namespace Cert.Proof.Ref

open Cert.ReferenceIdeal Cert.ReferenceIdeal.Gen Cert.ReferenceIdeal.Value Cert.Proof.Model Cert.Proof.Order Cert.Proof.Top
open Cert.Proof.Reading (Live live_zero not_live_neg one_word nlt)
open Idealize.ShloMosaic Idealize.ShloMosaic.TcCoe

theorem flat512 {α : Type} (Y : (⟨2, ![1, 512]⟩ : Shape).Idx → α) (hc : Shape.ShapeCasts ⟨2, ![1, 512]⟩ ⟨1, ![512]⟩) (k : Fin 512) :
    shapeCast ⟨1, ![512]⟩ Y hc (Idealize.ShloMosaic.ix1 k) = Y (Idealize.ShloMosaic.ix2 0 k) := by
  pointwise
theorem flat1024 {α : Type} (Y : (⟨2, ![1, 1024]⟩ : Shape).Idx → α) (hc : Shape.ShapeCasts ⟨2, ![1, 1024]⟩ ⟨1, ![1024]⟩) (k : Fin 1024) :
    shapeCast ⟨1, ![1024]⟩ Y hc (Idealize.ShloMosaic.ix1 k) = Y (Idealize.ShloMosaic.ix2 0 k) := by
  pointwise

/-- The one row from `b` on. -/
theorem row_at {α : Type} {N C : ℕ} (T : (⟨2, ![N, C]⟩ : Shape).Idx → α) (st : Fin 2 → ℤ) (h : Shape.Slices ⟨2, ![N, C]⟩ (fun _ => 0) ⟨2, ![1, C]⟩)
    (b : Fin N) (h0 : st 0 = (b.val : ℤ)) (h1 : st 1 = 0) (k : Fin C) :
    Host.dynamicSlice ⟨2, ![1, C]⟩ T st h (Idealize.ShloMosaic.ix2 0 k) = T (Idealize.ShloMosaic.ix2 b k) := by
  rw [Host.dynamicSlice_eq_extractStridedSlice (s := ⟨2, ![N, C]⟩) ⟨2, ![1, C]⟩ T st ![b.val, 0] h
    ⟨rfl, fun a => by fin_cases a; (· show b.val + 1 ≤ N; have := b.isLt; omega); (· show 0 + C ≤ C; omega)⟩ (fun a => by fin_cases a; exacts [h0, h1])]
  unfold extractStridedSlice
  refine congrArg T (funext fun a => ?_)
  fin_cases a
  · exact Fin.ext (Nat.add_zero _)
  · exact Fin.ext (Nat.zero_add _)

/-- The one entry from `b` on, as a scalar. -/
theorem cell_at {α : Type} {N : ℕ} (T : (⟨1, ![N]⟩ : Shape).Idx → α) (st : Fin 1 → ℤ) (h : Shape.Slices ⟨1, ![N]⟩ (fun _ => 0) ⟨1, ![1]⟩)
    (hc : Shape.ShapeCasts ⟨1, ![1]⟩ S_) (b : Fin N) (h0 : st 0 = (b.val : ℤ)) (z : S_.Idx) :
    shapeCast S_ (Host.dynamicSlice ⟨1, ![1]⟩ T st h) hc z = T (Idealize.ShloMosaic.ix1 b) := by
  rw [Host.dynamicSlice_eq_extractStridedSlice (s := ⟨1, ![N]⟩) ⟨1, ![1]⟩ T st ![b.val] h
    ⟨rfl, fun a => by fin_cases a; show b.val + 1 ≤ N; have := b.isLt; omega⟩ (fun a => by fin_cases a; exact h0)]
  pointwise
  refine congrArg T (funext fun a => ?_)
  fin_cases a
  exact Fin.ext (Nat.add_zero _)

/-- A number's index, wrapped where negative, is itself. -/
theorem wrap_at {w u : IVec S_ 32} {b : Fin 1024} (hw : ∀ z, w z = BitVec.ofNat 32 b.val) (z : S_.Idx) :
    (select (cmpi .slt w (constantI S_ 32 0#32)) u w z).toInt = (b.val : ℤ) := by
  have e : (w z).toInt = (b.val : ℤ) := by rw [hw z]; exact toInt_small (nlt b)
  rw [select_slt_zero_of_nonneg w u w z (by rw [e]; exact Int.natCast_nonneg _)]
  exact e

/-- The carried buffers hold a state: the samples `X`, the node numbers, the constants `p`, and the network `s` after `t` steps. -/
structure Rel (p : Par) (X : Fin 64 → Fin 512 → EReal) (A : ℕ → EReal) (s : St) (t : ℕ) (W : Valuation τ sig (Elt Ideal)) : Prop where
  data : ∀ k j, W (Proc.devRef .tc main_v2_0) (Idealize.ShloMosaic.ix2 k j) = X k j
  node : ∀ i : Fin 1024, W (Proc.devRef .tc main_v2_1) (Idealize.ShloMosaic.ix1 i) = BitVec.ofNat 32 i.val
  eb : ∀ z, W (Proc.devRef .tc main_v2_2) z = p.eb
  tb : ∀ z, W (Proc.devRef .tc main_v2_3) z = p.tb
  ka : ∀ z, W (Proc.devRef .tc main_v2_4) z = p.ka
  en : ∀ z, W (Proc.devRef .tc main_v2_5) z = p.en
  tn : ∀ z, W (Proc.devRef .tc main_v2_6) z = p.tn
  ctr : ∀ z, W (Proc.devRef .tc main_v2_7) z = BitVec.ofNat 32 t
  V : ∀ i k, W (Proc.devRef .tc main_v2_8) (Idealize.ShloMosaic.ix2 i k) = s.V i k
  h : ∀ i, W (Proc.devRef .tc main_v2_9) (Idealize.ShloMosaic.ix1 i) = s.h i
  L : ∀ i j, Live (W (Proc.devRef .tc main_v2_10) (Idealize.ShloMosaic.ix2 i j)) ↔ s.L i j
  age : ∀ i j, (W (Proc.devRef .tc main_v2_10) (Idealize.ShloMosaic.ix2 i j)).toInt ≤ 36 + t
  size : ∀ z, W (Proc.devRef .tc main_v2_11) z = BitVec.ofNat 32 s.n
  acts : ∀ j : Fin 64, j.val < t → W (Proc.devRef .tc main_v2_12) (Idealize.ShloMosaic.ix1 j) = A j.val

section Read
variable {p : Par} {X : Fin 64 → Fin 512 → EReal} {A : ℕ → EReal} {s : St} {t : ℕ} {W : Valuation τ sig (Elt Ideal)}
  (ht : t < 64) (R : Rel p X A s t W)
include ht R

theorem sample_at (k : Fin 512) : res_main_while0b_v3 W (Idealize.ShloMosaic.ix1 k) = at64 X t k := by
  have hm : min t 63 = t := by omega
  refine (flat512 _ _ k).trans ((row_at (N := 64) (C := 512) (W (Proc.devRef .tc main_v2_0)) _ _ ⟨t, ht⟩ ?_ rfl k).trans ?_)
  · exact (congrArg BitVec.toInt (R.ctr _)).trans (toInt_small (by omega))
  · refine (R.data _ _).trans ?_
    unfold at64
    exact congrArg (fun q => X q k) (Fin.ext hm.symm)

theorem diff_at (i : Fin 1024) (k : Fin 512) : res_main_while0b_v6 W (Idealize.ShloMosaic.ix2 i k) = at64 X t k - s.V i k := by
  rw [← sample_at ht R k, ← R.V i k]
  pointwise [res_main_while0b_v6]

variable (hn : s.n ≤ 1024)
include hn

theorem dist_at (i : Fin 1024) : res_main_while0b_v15 W (Idealize.ShloMosaic.ix1 i) = -(D s (at64 X t) i) := by
  pointwise [res_main_while0b_v15]
  refine congrArg (fun q : EReal => -q) ?_
  unfold D root
  rw [show W (Proc.tc.devRef main_v2_1) (Idealize.ShloMosaic.ix1 i) = _ from R.node i, R.size]
  refine if_congr (slt_small (nlt i) (by omega)) ?_ top_word
  refine congrArg (fun q => Ideal.sqrt (q + cEps)) ?_
  unfold Model.sq
  exact Finset.sum_congr rfl fun k _ => by rw [diff_at ht R]

/-- The nearest node's number. -/
theorem b_at (z : S_.Idx) : res_main_while0b_v17 W z = BitVec.ofNat 32 (B s (at64 X t)).val := by
  refine Eq.trans ?_ (topK_first (dist_at ht R hn) sliceFits_S1024_S2)
  pointwise [res_main_while0b_v17, res_main_while0b_indices]

/-- The second nearest node's number. -/
theorem c_at (z : S_.Idx) : shapeCast S_ (extractStridedSlice S1 ![1] (res_main_while0b_indices W) slices_S2_S1_1) shapeCasts_S1_S_ z
    = BitVec.ofNat 32 (C s (at64 X t)).val := by
  refine Eq.trans ?_ (topK_second (dist_at ht R hn) sliceFits_S1024_S2)
  pointwise [res_main_while0b_indices]

/-- The activation. -/
theorem act_at (z : S_.Idx) : res_main_while0b_v22 W z = act s (at64 X t) := by
  unfold act
  rw [show -(D s (at64 X t) (B s (at64 X t))) = _ from (topK_least (dist_at ht R hn) sliceFits_S1024_S2).symm]
  pointwise [res_main_while0b_v22]

/-- The nearest node. -/
theorem Vb_at (k : Fin 512) : res_main_while0b_v30 W (Idealize.ShloMosaic.ix1 k) = s.V (B s (at64 X t)) k := by
  have hb := b_at ht R hn
  unfold res_main_while0b_v30
  generalize res_main_while0b_v17 W = w at hb ⊢
  generalize B s (at64 X t) = b at hb ⊢
  have hw := wrap_at (u := addi w (constantI S_ 32 1024#32)) hb (Shape.Idx.first h_S_)
  exact (flat512 _ _ k).trans ((row_at (N := 1024) (C := 512) (W (Proc.devRef .tc main_v2_8)) _ _ b hw rfl k).trans (R.V _ _))

/-- Its level. -/
theorem hb_at (z : S_.Idx) : res_main_while0b_v35 W z = s.h (B s (at64 X t)) := by
  have hb := b_at ht R hn
  unfold res_main_while0b_v35
  generalize res_main_while0b_v17 W = w at hb ⊢
  generalize B s (at64 X t) = b at hb ⊢
  have hw := wrap_at (u := addi w (constantI S_ 32 1024#32)) hb (Shape.Idx.first h_S_)
  exact (cell_at (N := 1024) (W (Proc.devRef .tc main_v2_9)) _ _ _ b hw z).trans (R.h _)

theorem ins_at (z : S_.Idx) : res_main_while0b_v40 W z = 1#1 ↔ Ins s (at64 X t) := by
  have e3 : IntOp.cmpi .slt (BitVec.ofNat 32 s.n) 1024#32 = 1#1 ↔ s.n < 1024 := slt_small (by omega) (by omega)
  unfold Ins
  rw [← act_at ht R hn z, ← hb_at ht R hn z, ← e3, ← R.size z, ← and_assoc, ← olt_one, ← olt_one, ← andi_one, ← andi_one]
  exact Iff.rfl

theorem isB_at (i : Fin 1024) : res_main_while0b_v42 W (Idealize.ShloMosaic.ix1 i) = 1#1 ↔ i = B s (at64 X t) := by
  refine Iff.trans ?_ ((eq_small (nlt i) (nlt (B s (at64 X t)))).trans Fin.ext_iff.symm)
  rw [← R.node i, ← b_at ht R hn Idealize.ShloMosaic.ix0]
  pointwise [res_main_while0b_v42]

theorem isC_at (i : Fin 1024) : res_main_while0b_v44 W (Idealize.ShloMosaic.ix1 i) = 1#1 ↔ i = C s (at64 X t) := by
  refine Iff.trans ?_ ((eq_small (nlt i) (nlt (C s (at64 X t)))).trans Fin.ext_iff.symm)
  rw [← R.node i, ← c_at ht R hn Idealize.ShloMosaic.ix0]
  pointwise [res_main_while0b_v44]

theorem isN_at (i : Fin 1024) : res_main_while0b_v46 W (Idealize.ShloMosaic.ix1 i) = 1#1 ↔ i.val = s.n := by
  refine Iff.trans ?_ (eq_small (nlt i) (by omega))
  rw [← R.node i, ← R.size Idealize.ShloMosaic.ix0]
  pointwise [res_main_while0b_v46]

theorem both_at (i j : Fin 1024) : res_main_while0b_v57 W (Idealize.ShloMosaic.ix2 i j) = 1#1 ↔ Both s (at64 X t) i j := by
  unfold Both
  rw [← isB_at ht R hn i, ← isB_at ht R hn j, ← isC_at ht R hn i, ← isC_at ht R hn j, ← andi_one, ← andi_one, ← ori_one]
  pointwise [res_main_while0b_v57]

end Read

end Cert.Proof.Ref
end
-- ==== Proof.RefStep.lean ====
/- One step of the reference is one step of the network. -/
module

public import proofs.«01_k».proof.Proof.RefRead
public import Idealize.ShloMosaic.Lib.Pipeline.Value

@[expose] public section

set_option maxRecDepth 16384

noncomputable section

namespace Cert.Proof.Ref

open Cert.ReferenceIdeal Cert.ReferenceIdeal.Gen Cert.ReferenceIdeal.Value Cert.Proof.Model Cert.Proof.Order
open Cert.Proof.Reading (Live live_zero not_live_neg one_word nlt)
open Idealize.ShloMosaic Idealize.ShloMosaic.TcCoe

theorem sel_iff {α : Type} {c : BitVec 1} {P : Prop} [Decidable P] (h : c = 1#1 ↔ P) {u v : α} : Scalar.select c u v = if P then u else v :=
  if_congr h rfl rfl

theorem live_iff {e : BitVec 32} : Live e ↔ 0 ≤ e.toInt := by
  have : IntOp.cmpi .sgt e 4294967295#32 = BitVec.ofBool ((4294967295#32).slt e) := rfl
  unfold Live
  rw [this, BitVec.slt_eq_decide, show (4294967295#32).toInt = -1 from by decide]
  by_cases h : -1 < e.toInt
  · rw [decide_eq_true h]
    exact ⟨fun _ => by omega, fun _ => rfl⟩
  · rw [decide_eq_false h]
    exact ⟨fun q => absurd q (by decide), fun q => by omega⟩

/-- An edge below the age limit grows older by one and stays live. -/
theorem older {e : BitVec 32} (hl : Live e) (ha : e.toInt < 100) :
    IntOp.cmpi .slt e 100#32 = 1#1 ∧ Live (IntOp.addi e 1#32) ∧ (IntOp.addi e 1#32).toInt = e.toInt + 1 := by
  have h0 := live_iff.mp hl
  have hs : (IntOp.addi e 1#32).toInt = e.toInt + 1 := by
    show (e + 1#32).toInt = _
    rw [BitVec.toInt_add, show (1#32).toInt = 1 from by decide]
    exact Int.bmod_eq_of_le (by omega) (by omega)
  refine ⟨?_, live_iff.mpr (by omega), hs⟩
  show BitVec.ofBool (e.slt 100#32) = 1#1
  rw [BitVec.slt_eq_decide, show (100#32).toInt = 100 from by decide, decide_eq_true ha]
  rfl

/-- One entry written at place `b`. -/
theorem put_at {α : Type} {N : ℕ} (T : (⟨1, ![N]⟩ : Shape).Idx → α) (u : (⟨1, ![1]⟩ : Shape).Idx → α) (st : Fin 1 → ℤ)
    (h : Shape.Slices ⟨1, ![N]⟩ (fun _ => 0) ⟨1, ![1]⟩) (b : Fin N) (h0 : st 0 = (b.val : ℤ)) (j : Fin N) :
    Host.dynamicUpdateSlice T u st h (Idealize.ShloMosaic.ix1 j) = if j.val = b.val then u (Idealize.ShloMosaic.ix1 0) else T (Idealize.ShloMosaic.ix1 j) := by
  rw [Host.dynamicUpdateSlice_eq_updateSlice (s := ⟨1, ![N]⟩) T u st h ![b.val]
    (fun a => by fin_cases a; show (min (max (st 0) 0) ((N - 1 : ℕ) : ℤ)).toNat = b.val; have := b.isLt; omega)
    ⟨rfl, fun a => by fin_cases a; show b.val + 1 ≤ N; have := b.isLt; omega⟩]
  unfold updateSlice
  by_cases hj : j.val = b.val
  · rw [if_pos hj, dif_pos fun a => by fin_cases a; show b.val ≤ j.val ∧ j.val < b.val + 1; omega]
    refine congrArg u (funext fun a => ?_)
    fin_cases a
    exact Fin.ext (show j.val - b.val = 0 by omega)
  · rw [if_neg hj, dif_neg fun q => hj (by have : b.val ≤ j.val ∧ j.val < b.val + 1 := q 0; omega)]

section Step
variable {p : Par} {X : Fin 64 → Fin 512 → EReal} {A : ℕ → EReal} {s : St} {t : ℕ} {W : Valuation τ sig (Elt Ideal)}
  (ht : t < 64) (R : Rel p X A s t W) (hn : s.n ≤ 1024)
include ht R hn

open Classical in
/-- The edges, the two nearest joined afresh. -/
theorem joined_at (i j : Fin 1024) : res_main_while0b_v79 W (Idealize.ShloMosaic.ix2 i j)
    = if Both s (at64 X t) i j then 0#32 else W (Proc.devRef .tc main_v2_10) (Idealize.ShloMosaic.ix2 i j) := by
  pointwise [res_main_while0b_v79]
  exact if_congr (both_at ht R hn i j) rfl rfl

theorem joined_live (i j : Fin 1024) : Live (res_main_while0b_v79 W (Idealize.ShloMosaic.ix2 i j)) ↔ Both s (at64 X t) i j ∨ s.L i j := by
  rw [joined_at ht R hn]
  by_cases h : Both s (at64 X t) i j
  · rw [if_pos h]
    exact ⟨fun _ => .inl h, fun _ => live_zero⟩
  · rw [if_neg h, ← R.L i j]
    exact ⟨fun q => .inr q, fun q => q.resolve_left h⟩

open Classical in
/-- The nodes, the nearest moved. -/
theorem moved_at (i : Fin 1024) (k : Fin 512) : res_main_while0b_v86 W (Idealize.ShloMosaic.ix2 i k)
    = if i = B s (at64 X t) then s.V (B s (at64 X t)) k + p.eb * s.h (B s (at64 X t)) * (at64 X t k - s.V (B s (at64 X t)) k) else s.V i k := by
  pointwise [res_main_while0b_v86]
  refine if_congr (isB_at ht R hn i) ?_ (R.V i k)
  rw [← sample_at ht R k, ← Vb_at ht R hn k, ← hb_at ht R hn Idealize.ShloMosaic.ix0, ← R.eb Idealize.ShloMosaic.ix0]

open Classical in
/-- The levels, the nearest's lowered. -/
theorem tired_at (i : Fin 1024) : res_main_while0b_v92 W (Idealize.ShloMosaic.ix1 i)
    = if i = B s (at64 X t) then s.h (B s (at64 X t)) + p.tb * p.ka * (cOne - s.h (B s (at64 X t))) - p.tb else s.h i := by
  rw [show (cOne : EReal) = _ from one_word]
  pointwise [res_main_while0b_v92]
  refine if_congr (isB_at ht R hn i) ?_ (R.h i)
  rw [← hb_at ht R hn Idealize.ShloMosaic.ix0, ← R.tb Idealize.ShloMosaic.ix0, ← R.ka Idealize.ShloMosaic.ix0]

/-- The nearest node's neighbours. -/
theorem near_at (i : Fin 1024) : res_main_while0b_v105 W (Idealize.ShloMosaic.ix1 i) = 1#1 ↔ Nb s (at64 X t) i := by
  have hb := b_at ht R hn
  have hl := joined_live ht R hn (B s (at64 X t)) i
  have hc := C_ne_B (s := s) (x := at64 X t)
  unfold Nb Both at *
  have e2 : IntOp.cmpi .ne (W (Proc.devRef .tc main_v2_1) (Idealize.ShloMosaic.ix1 i)) (res_main_while0b_v17 W Idealize.ShloMosaic.ix0) = 1#1 ↔ i ≠ B s (at64 X t) := by
    rw [show W (Proc.devRef .tc main_v2_1) (Idealize.ShloMosaic.ix1 i) = _ from R.node i, hb]
    exact (ne_small (nlt i) (nlt _)).trans (not_congr Fin.ext_iff.symm)
  have e1 : (i = C s (at64 X t) ∨ s.L (B s (at64 X t)) i) ∧ i ≠ B s (at64 X t)
      ↔ Live (res_main_while0b_v79 W (Idealize.ShloMosaic.ix2 (B s (at64 X t)) i)) ∧ i ≠ B s (at64 X t) := by
    rw [hl]
    constructor
    · rintro ⟨h | h, h'⟩
      · exact ⟨.inl (.inl ⟨rfl, h⟩), h'⟩
      · exact ⟨.inr h, h'⟩
    · rintro ⟨(⟨-, h⟩ | ⟨h, -⟩) | h, h'⟩
      · exact ⟨.inl h, h'⟩
      · exact absurd h.symm hc
      · exact ⟨.inr h, h'⟩
  rw [e1, ← e2]
  clear e1 e2 hl hc
  unfold res_main_while0b_v105
  generalize res_main_while0b_v17 W = w at hb ⊢
  generalize res_main_while0b_v79 W = E at hb ⊢
  generalize B s (at64 X t) = b at hb ⊢
  have hw := wrap_at (u := addi w (constantI S_ 32 1024#32)) hb (Shape.Idx.first h_S_)
  unfold Live
  rw [← andi_one]
  refine Iff.of_eq (congrArg (· = 1#1) (congrArg₂ IntOp.andi (congrArg₂ (IntOp.cmpi .sgt) ?_ rfl) (congrArg (IntOp.cmpi .ne _) (congrArg w (funext fun a => a.elim0)))))
  exact (flat1024 _ _ i).trans (row_at (N := 1024) (C := 1024) E _ _ b hw rfl i)

open Classical in
theorem nodes_at (i : Fin 1024) (k : Fin 512) : step_main_v2_8 W (Idealize.ShloMosaic.ix2 i k) = (next p s (at64 X t)).V i k := by
  pointwise [step_main_v2_8, id_eq]
  rw [sel_iff (ins_at ht R hn _), sel_iff (isN_at ht R hn i), sel_iff (near_at ht R hn i), sample_at ht R k, Vb_at ht R hn k, moved_at ht R hn i k,
    tired_at ht R hn i, show W (Proc.tc.devRef main_v2_8) (Idealize.ShloMosaic.ix2 i k) = _ from R.V i k, R.en]
  unfold next
  by_cases hI : Ins s (at64 X t)
  · rw [if_pos hI, if_pos hI]
    rfl
  · rw [if_neg hI, if_neg hI]
    unfold upd
    dsimp only
    by_cases hB : i = B s (at64 X t)
    · rw [if_pos hB, if_pos hB, if_pos hB, if_neg fun h : Nb s (at64 X t) i => h.2 hB]
      exact add_zero (M := EReal) _
    · rw [if_neg hB, if_neg hB, if_neg hB]
      by_cases hN : Nb s (at64 X t) i
      · rw [if_pos hN, if_pos hN]
      · rw [if_neg hN, if_neg hN]
        exact add_zero (M := EReal) _

open Classical in
theorem levels_at (i : Fin 1024) : step_main_v2_9 W (Idealize.ShloMosaic.ix1 i) = (next p s (at64 X t)).h i := by
  pointwise [step_main_v2_9, id_eq]
  rw [sel_iff (ins_at ht R hn _), sel_iff (isN_at ht R hn i), sel_iff (near_at ht R hn i), tired_at ht R hn i,
    show W (Proc.tc.devRef main_v2_9) (Idealize.ShloMosaic.ix1 i) = _ from R.h i, R.tn, R.ka, ← one_word]
  unfold next
  by_cases hI : Ins s (at64 X t)
  · rw [if_pos hI, if_pos hI]
    rfl
  · rw [if_neg hI, if_neg hI]
    unfold upd
    dsimp only
    by_cases hB : i = B s (at64 X t)
    · rw [if_pos hB, if_pos hB, if_neg fun h : Nb s (at64 X t) i => h.2 hB]
      exact add_zero (M := EReal) _
    · rw [if_neg hB, if_neg hB]
      by_cases hN : Nb s (at64 X t) i
      · rw [if_pos hN, if_pos hN]
      · rw [if_neg hN, if_neg hN]
        exact add_zero (M := EReal) _

theorem edges_at (hok : Ok s t) (i j : Fin 1024) :
    (Live (step_main_v2_10 W (Idealize.ShloMosaic.ix2 i j)) ↔ (next p s (at64 X t)).L i j)
    ∧ (step_main_v2_10 W (Idealize.ShloMosaic.ix2 i j)).toInt ≤ 36 + ((t + 1 : ℕ) : ℤ) := by
  classical
  have hto : IntOp.ori (IntOp.andi (IntOp.ori (res_main_while0b_v42 W (Idealize.ShloMosaic.ix1 i)) (res_main_while0b_v44 W (Idealize.ShloMosaic.ix1 i)))
        (res_main_while0b_v46 W (Idealize.ShloMosaic.ix1 j)))
      (IntOp.andi (res_main_while0b_v46 W (Idealize.ShloMosaic.ix1 i))
        (IntOp.ori (res_main_while0b_v42 W (Idealize.ShloMosaic.ix1 j)) (res_main_while0b_v44 W (Idealize.ShloMosaic.ix1 j)))) = 1#1
      ↔ ((i = B s (at64 X t) ∨ i = C s (at64 X t)) ∧ j.val = s.n) ∨ (i.val = s.n ∧ (j = B s (at64 X t) ∨ j = C s (at64 X t))) := by
    rw [ori_one, andi_one, andi_one, ori_one, ori_one, isB_at ht R hn, isC_at ht R hn, isN_at ht R hn, isB_at ht R hn, isC_at ht R hn, isN_at ht R hn]
  have hof : IntOp.ori (IntOp.andi (res_main_while0b_v42 W (Idealize.ShloMosaic.ix1 i)) (res_main_while0b_v105 W (Idealize.ShloMosaic.ix1 j)))
      (IntOp.andi (res_main_while0b_v105 W (Idealize.ShloMosaic.ix1 i)) (res_main_while0b_v42 W (Idealize.ShloMosaic.ix1 j))) = 1#1
      ↔ (i = B s (at64 X t) ∧ Nb s (at64 X t) j) ∨ (Nb s (at64 X t) i ∧ j = B s (at64 X t)) := by
    rw [ori_one, andi_one, andi_one, isB_at ht R hn, near_at ht R hn, isB_at ht R hn, near_at ht R hn]
  have hE := R.L i j
  have hA := R.age i j
  have hJ := joined_live ht R hn i j
  have hJA : (res_main_while0b_v79 W (Idealize.ShloMosaic.ix2 i j)).toInt ≤ 36 + (t : ℤ) := by
    rw [joined_at ht R hn]
    split
    · show (0 : ℤ) ≤ _
      omega
    · exact hA
  have e : step_main_v2_10 W (Idealize.ShloMosaic.ix2 i j)
      = if Ins s (at64 X t) then
          (if ((i = B s (at64 X t) ∨ i = C s (at64 X t)) ∧ j.val = s.n) ∨ (i.val = s.n ∧ (j = B s (at64 X t) ∨ j = C s (at64 X t))) then 0#32
            else if Both s (at64 X t) i j then 4294967295#32 else W (Proc.devRef .tc main_v2_10) (Idealize.ShloMosaic.ix2 i j))
        else if (i = B s (at64 X t) ∧ Nb s (at64 X t) j) ∨ (Nb s (at64 X t) i ∧ j = B s (at64 X t)) then
          Scalar.select (IntOp.cmpi .slt (res_main_while0b_v79 W (Idealize.ShloMosaic.ix2 i j)) 100#32)
            (IntOp.addi (res_main_while0b_v79 W (Idealize.ShloMosaic.ix2 i j)) 1#32) 4294967295#32
        else res_main_while0b_v79 W (Idealize.ShloMosaic.ix2 i j) := by
    pointwise [step_main_v2_10, id_eq]
    rw [sel_iff (ins_at ht R hn _), sel_iff hto, sel_iff (both_at ht R hn i j), sel_iff hof]
  rw [e]
  generalize res_main_while0b_v79 W (Idealize.ShloMosaic.ix2 i j) = e2 at hJ hJA ⊢
  clear e
  generalize W (Proc.tc.devRef main_v2_10) (Idealize.ShloMosaic.ix2 i j) = e0 at hE hA ⊢
  unfold next
  by_cases hI : Ins s (at64 X t)
  · rw [if_pos hI, if_pos hI]
    show (_ ↔ (i.val = s.n ∧ (j = B s (at64 X t) ∨ j = C s (at64 X t))) ∨ (j.val = s.n ∧ (i = B s (at64 X t) ∨ i = C s (at64 X t)))
      ∨ (i.val ≠ s.n ∧ ¬ Both s (at64 X t) i j ∧ s.L i j)) ∧ _
    split
    · next h =>
      refine ⟨⟨fun _ => ?_, fun _ => live_zero⟩, ?_⟩
      · rcases h with ⟨h, h'⟩ | h
        · exact .inr (.inl ⟨h', h⟩)
        · exact .inl h
      · show (0 : ℤ) ≤ _
        omega
    · next h =>
      split
      · next hb =>
        refine ⟨⟨fun q => absurd q not_live_neg, fun q => ?_⟩, ?_⟩
        · rcases q with q | ⟨q, q'⟩ | q
          · exact absurd (.inr q) h
          · exact absurd (.inl ⟨q', q⟩) h
          · exact absurd hb q.2.1
        · show (-1 : ℤ) ≤ _
          omega
      · next hb =>
        refine ⟨hE.trans ⟨fun q => .inr (.inr ⟨(hok.dead _ _ q).1.ne, hb, q⟩), fun q => ?_⟩, by omega⟩
        rcases q with q | ⟨q, q'⟩ | q
        · exact absurd (.inr q) h
        · exact absurd (.inl ⟨q', q⟩) h
        · exact q.2.2
  · rw [if_neg hI, if_neg hI]
    show (_ ↔ Both s (at64 X t) i j ∨ s.L i j) ∧ _
    split
    · next h =>
      have hl : Both s (at64 X t) i j ∨ s.L i j := by
        rcases h with ⟨h1, h2 | h2, -⟩ | ⟨⟨h2 | h2, -⟩, h1⟩
        · exact .inl (.inl ⟨h1, h2⟩)
        · exact .inr (by rw [h1]; exact h2)
        · exact .inl (.inr ⟨h2, h1⟩)
        · exact .inr (by rw [h1]; exact hok.sym _ _ h2)
      obtain ⟨l1, l2, l3⟩ := older (hJ.mpr hl) (by omega)
      rw [sel_iff (P := True) ⟨fun _ => trivial, fun _ => l1⟩, if_pos trivial]
      exact ⟨⟨fun _ => hl, fun _ => l2⟩, by omega⟩
    · exact ⟨hJ, by omega⟩

theorem size_at (z : S_.Idx) : step_main_v2_11 W z = BitVec.ofNat 32 (next p s (at64 X t)).n := by
  classical
  pointwise [step_main_v2_11, id_eq]
  rw [sel_iff (ins_at ht R hn z), R.size]
  unfold next
  by_cases hI : Ins s (at64 X t)
  · rw [if_pos hI, if_pos hI]
    show BitVec.ofNat 32 s.n + BitVec.ofNat 32 1 = BitVec.ofNat 32 (s.n + 1)
    rw [BitVec.ofNat_add]
  · rw [if_neg hI, if_neg hI]
    rfl

theorem acts_at (j : Fin 64) : step_main_v2_12 W (Idealize.ShloMosaic.ix1 j)
    = if j.val = t then act s (at64 X t) else W (Proc.devRef .tc main_v2_12) (Idealize.ShloMosaic.ix1 j) := by
  unfold step_main_v2_12
  refine (put_at (W (Proc.devRef .tc main_v2_12)) _ _ _ ⟨t, ht⟩ ?_ j).trans (if_congr Iff.rfl ?_ rfl)
  · exact (congrArg BitVec.toInt (R.ctr _)).trans (toInt_small (by omega))
  · exact act_at ht R hn _

theorem ctr_at (z : S_.Idx) : step_main_v2_7 W z = BitVec.ofNat 32 (t + 1) := by
  pointwise [step_main_v2_7, id_eq]
  rw [R.ctr, BitVec.ofNat_add]
  rfl

/-- One step of the reference is one step of the network. -/
theorem rel_step (hok : Ok s t) (hA : A t = act s (at64 X t)) : Rel p X A (next p s (at64 X t)) (t + 1) (STEP W) where
  data k j := (congrFun (STEP_main_v2_0 W) _).trans (R.data k j)
  node i := (congrFun (STEP_main_v2_1 W) _).trans (R.node i)
  eb z := (congrFun (STEP_main_v2_2 W) _).trans (R.eb z)
  tb z := (congrFun (STEP_main_v2_3 W) _).trans (R.tb z)
  ka z := (congrFun (STEP_main_v2_4 W) _).trans (R.ka z)
  en z := (congrFun (STEP_main_v2_5 W) _).trans (R.en z)
  tn z := (congrFun (STEP_main_v2_6 W) _).trans (R.tn z)
  ctr z := (congrFun (STEP_main_v2_7 W) _).trans (ctr_at ht R hn z)
  V i k := (congrFun (STEP_main_v2_8 W) _).trans (nodes_at ht R hn i k)
  h i := (congrFun (STEP_main_v2_9 W) _).trans (levels_at ht R hn i)
  L i j := by
    rw [STEP_main_v2_10]
    exact (edges_at ht R hn hok i j).1
  age i j := by
    rw [STEP_main_v2_10]
    exact (edges_at ht R hn hok i j).2
  size z := (congrFun (STEP_main_v2_11 W) _).trans (size_at ht R hn z)
  acts j hj := by
    refine (congrFun (STEP_main_v2_12 W) _).trans ((acts_at ht R hn j).trans ?_)
    by_cases h : j.val = t
    · rw [if_pos h, h, hA]
    · rw [if_neg h]
      exact R.acts j (by omega)

end Step

end Cert.Proof.Ref
end
-- ==== Proof.RefRun.lean ====
/- The reference's 64 steps, from the arguments on. -/
module

public import proofs.«01_k».proof.Proof.RefStep
public import proofs.«01_k».proof.Proof.Launched
public import proofs.«01_k».proof.Pre_edges_as_drawn
public import Idealize.ShloMosaic.Lib.ReduceAll

@[expose] public section

set_option maxRecDepth 16384

noncomputable section

/-- The precondition's shapes fit one another. -/
instance Cert.Proof.preFacts : Cert.Pre_edges_as_drawn.Facts where
  bcast_S_S1024x1024 := by decide
  transposes_S1024x1024_S1024x1024_1_0 := by decide
  reducesTo_S1024x1024_S_d0_1 := by decide
  h_S_ := by decide

namespace Cert.Proof.Ref

open Cert.ReferenceIdeal Cert.ReferenceIdeal.Gen Cert.ReferenceIdeal.Value Cert.Proof.Model Cert.Proof.Order
open Cert.Proof.Reading (Live live_zero not_live_neg one_word nlt start flat samples endV endH endA)
open Cert.Proof.Launched (the)
open Idealize.ShloMosaic Idealize.ShloMosaic.TcCoe Idealize.ShloMosaic.Tactic
open Idealize.ShloMosaic.StableHlo

/-- What the precondition says of the edges. -/
structure Drawn (E : IVec S1024x1024 32) : Prop where
  sym : ∀ i j : Fin 1024, Live (E (Idealize.ShloMosaic.ix2 i j)) → Live (E (Idealize.ShloMosaic.ix2 j i))
  age : ∀ i j : Fin 1024, (E (Idealize.ShloMosaic.ix2 i j)).toInt ≤ 36
  row : ∀ i j : Fin 1024, Live (E (Idealize.ShloMosaic.ix2 i j)) → i.val < 960

theorem one_bit_eq {a b : BitVec 1} (h : IntOp.cmpi .eq a b = 1#1) : a = b := by
  revert a b; decide

theorem not_both {a b : BitVec 1} (h : ~~~(a &&& b) = 1#1) (ha : a = 1#1) : b ≠ 1#1 := by
  revert a b; decide

theorem drawn {a0 a1 a2 a3 : _} {E : IVec S1024x1024 32} {a5 a6 a7 a8 a9 : _}
    (h : Cert.Pre_edges_as_drawn.fn (F := Ideal) a0 a1 a2 a3 E a5 a6 a7 a8 a9 = fun _ => 1#1) : Drawn E := by
  have H (i j : Fin 1024) :
      IntOp.cmpi .eq (IntOp.cmpi .sgt (E (Idealize.ShloMosaic.ix2 i j)) 4294967295#32) (IntOp.cmpi .sgt (E (Idealize.ShloMosaic.ix2 j i)) 4294967295#32) = 1#1
      ∧ IntOp.cmpi .sle (E (Idealize.ShloMosaic.ix2 i j)) 36#32 = 1#1
      ∧ ~~~(IntOp.cmpi .sgt (E (Idealize.ShloMosaic.ix2 i j)) 4294967295#32 &&& IntOp.cmpi .sge (BitVec.ofNat 32 i.val) 960#32) = 1#1 := by
    have e := Host.reduce_andi_all _ _ _ _ _ (congrFun h (fun a => a.elim0)) (Idealize.ShloMosaic.ix2 i j)
    obtain ⟨e, e3⟩ := IntOp.andi_eq_one.1 e
    obtain ⟨e1, e2⟩ := IntOp.andi_eq_one.1 e
    refine ⟨?_, e2, e3⟩
    refine Eq.trans ?_ e1
    pointwise
  refine ⟨fun i j hl => (one_bit_eq (H i j).1).symm.trans hl, fun i j => ?_, fun i j hl => ?_⟩
  · have := (H i j).2.1
    rw [WordCmp.cmpi_sle_eq] at this
    by_contra hc
    rw [decide_eq_false (show ¬ (E (Idealize.ShloMosaic.ix2 i j)).toInt ≤ (36#32).toInt from hc)] at this
    exact absurd this (by decide)
  · have := not_both (H i j).2.2 hl
    rw [WordCmp.cmpi_sge_eq] at this
    by_contra hc
    refine this ?_
    rw [toInt_small (nlt i), decide_eq_true (show (960#32).toInt ≤ (i.val : ℤ) from by rw [show (960#32).toInt = 960 from by decide]; omega)]
    rfl

theorem ok_start {V : Vec Ideal S1024x512 .f32} {h : Vec Ideal Cert.KernelIdeal.S8x128 .f32} {E : Vec Ideal S1024x1024 .i32} (d : Drawn E) : Ok (start V h E) 0 where
  lo := le_refl 960
  hi := le_refl 960
  sym := d.sym
  dead i j hl := ⟨d.row i j hl, d.row j i (d.sym i j hl)⟩

variable (m : (ℓ : Loc nD τ sig) → Buf (Elt Ideal) ℓ)

theorem flat_cast (x : S1024.Idx → EReal) (hc : S1024.ShapeCasts Cert.KernelIdeal.S8x128) (i : Fin 1024) :
    flat (shapeCast Cert.KernelIdeal.S8x128 x hc) i = x (Idealize.ShloMosaic.ix1 i) := by
  unfold flat
  pointwise
  exact congrArg (fun q => x (Idealize.ShloMosaic.ix1 q)) (fl_un i)

/-- At the loop's entry the carried buffers hold the arguments. -/
theorem rel_entry (c : Dev nD) (A : ℕ → EReal) (hc : S1024.ShapeCasts Cert.KernelIdeal.S8x128) (d : Drawn (m ((c.tc : Thread nD τ).loc main_arg4))) :
    Rel ⟨the (m ((c.tc : Thread nD τ).loc main_arg5)), the (m ((c.tc : Thread nD τ).loc main_arg6)), the (m ((c.tc : Thread nD τ).loc main_arg7)),
        the (m ((c.tc : Thread nD τ).loc main_arg8)), the (m ((c.tc : Thread nD τ).loc main_arg9))⟩
      (samples (m ((c.tc : Thread nD τ).loc main_arg1))) A
      (start (m ((c.tc : Thread nD τ).loc main_arg2)) (shapeCast Cert.KernelIdeal.S8x128 (m ((c.tc : Thread nD τ).loc main_arg3)) hc) (m ((c.tc : Thread nD τ).loc main_arg4)))
      0 (entryContents preI m c) := by
  have e0 : entryContents preI m c (Proc.devRef .tc main_v2_0) = m ((c.tc : Thread nD τ).loc main_arg1) := by
    simp only [entryContents, afterL_cons, afterL_nil]; after_reads_simp; rfl
  have e1 : entryContents preI m c (Proc.devRef .tc main_v2_1) = iotaInDim S1024 32 0 := by
    simp only [entryContents, afterL_cons, afterL_nil]; after_reads_simp; rfl
  have e2 : entryContents preI m c (Proc.devRef .tc main_v2_2) = m ((c.tc : Thread nD τ).loc main_arg5) := by
    simp only [entryContents, afterL_cons, afterL_nil]; after_reads_simp; rfl
  have e3 : entryContents preI m c (Proc.devRef .tc main_v2_3) = m ((c.tc : Thread nD τ).loc main_arg7) := by
    simp only [entryContents, afterL_cons, afterL_nil]; after_reads_simp; rfl
  have e4 : entryContents preI m c (Proc.devRef .tc main_v2_4) = m ((c.tc : Thread nD τ).loc main_arg9) := by
    simp only [entryContents, afterL_cons, afterL_nil]; after_reads_simp; rfl
  have e5 : entryContents preI m c (Proc.devRef .tc main_v2_5) = m ((c.tc : Thread nD τ).loc main_arg6) := by
    simp only [entryContents, afterL_cons, afterL_nil]; after_reads_simp; rfl
  have e6 : entryContents preI m c (Proc.devRef .tc main_v2_6) = m ((c.tc : Thread nD τ).loc main_arg8) := by
    simp only [entryContents, afterL_cons, afterL_nil]; after_reads_simp; rfl
  have e8 : entryContents preI m c (Proc.devRef .tc main_v2_8) = m ((c.tc : Thread nD τ).loc main_arg2) := by
    simp only [entryContents, afterL_cons, afterL_nil]; after_reads_simp; rfl
  have e9 : entryContents preI m c (Proc.devRef .tc main_v2_9) = m ((c.tc : Thread nD τ).loc main_arg3) := by
    simp only [entryContents, afterL_cons, afterL_nil]; after_reads_simp; rfl
  have e10 : entryContents preI m c (Proc.devRef .tc main_v2_10) = m ((c.tc : Thread nD τ).loc main_arg4) := by
    simp only [entryContents, afterL_cons, afterL_nil]; after_reads_simp; rfl
  have e11 : entryContents preI m c (Proc.devRef .tc main_v2_11) = fun _ => 960#32 := by
    simp only [entryContents, afterL_cons, afterL_nil]; after_reads_simp; rfl
  have el (x : S_.Idx → EReal) (z : S_.Idx) : x z = the x := congrArg x (funext fun a => a.elim0)
  constructor
  · intro k j; rw [e0]; rfl
  · intro i; rw [e1]; rfl
  · intro z; rw [e2]; exact el _ z
  · intro z; rw [e3]; exact el _ z
  · intro z; rw [e4]; exact el _ z
  · intro z; rw [e5]; exact el _ z
  · intro z; rw [e6]; exact el _ z
  · intro z; rw [ctr_entry]
  · intro i k; rw [e8]; rfl
  · intro i; rw [e9]; exact (flat_cast _ hc i).symm
  · intro i j; rw [e10]; exact Iff.rfl
  · intro i j; rw [e10]; exact d.age i j
  · intro z; rw [e11]; rfl
  · intro j hj; exact absurd hj (Nat.not_lt_zero _)

/-- After `t` steps they hold the network's state. -/
theorem rel_steps {p : Par} {X : Fin 64 → Fin 512 → EReal} {s : St} {W : Valuation τ sig (Elt Ideal)} (hok : Ok s 0)
    (R : Rel p X (Model.acts p X s) s 0 W) : ∀ t, t ≤ 64 → Rel p X (Model.acts p X s) (states p X s t) t (STEP^[t] W)
  | 0, _ => R
  | t + 1, ht => by
    rw [Function.iterate_succ_apply']
    have ok := ok_states (p := p) (X := X) hok t
    exact rel_step (by omega) (rel_steps hok R t (by omega)) (by have := ok.hi; omega) ok rfl

section Last
variable {p : Par} {X : Fin 64 → Fin 512 → EReal} {s : St} {W : Valuation τ sig (Elt Ideal)} (R : Rel p X (Model.acts p X s) (states p X s 64) 64 W)
include R

theorem last_V : W (Proc.devRef .tc main_v2_8) = endV p X s := by
  funext y
  obtain ⟨i, k, rfl⟩ : ∃ i k, y = Idealize.ShloMosaic.ix2 i k := ⟨y 0, y 1, by funext a; fin_cases a <;> rfl⟩
  exact R.V i k

theorem last_h (hc : Cert.KernelIdeal.S8x128.ShapeCasts S1024) : W (Proc.devRef .tc main_v2_9) = shapeCast S1024 (endH p X s) hc := by
  funext y
  obtain ⟨i, rfl⟩ : ∃ i, y = Idealize.ShloMosaic.ix1 i := ⟨y 0, by funext a; fin_cases a; rfl⟩
  refine (R.h i).trans ?_
  pointwise
  exact congrArg (states p X s 64).h (fl_un i).symm

theorem last_acts (hc : Cert.KernelIdeal.S1x64.ShapeCasts Cert.KernelIdeal.S64) : W (Proc.devRef .tc main_v2_12) = shapeCast Cert.KernelIdeal.S64 (endA p X s) hc := by
  funext y
  obtain ⟨i, rfl⟩ : ∃ i, y = Idealize.ShloMosaic.ix1 i := ⟨y 0, by funext a; fin_cases a; rfl⟩
  refine (R.acts i i.isLt).trans ?_
  pointwise
  rfl

end Last

end Cert.Proof.Ref
end
-- ==== Proof.lean ====
/- The claims put together: what each program's run leaves, and that the two leave the same results. -/
module

public import proofs.«01_k».proof.Defs
public import proofs.«01_k».proof.Proof.Gen.ReferenceIdeal
public import proofs.«01_k».proof.Proof.Gen.ReferenceIdeal.Run
public import proofs.«01_k».proof.Proof.Launched
public import proofs.«01_k».proof.Proof.RefRun

@[expose] public section

noncomputable section

namespace Cert.Proof

open Idealize.ShloMosaic Idealize.ShloMosaic.TcCoe Idealize.SL.Sem
open Cert.Proof.Reading (start samples endV endH endA)
open Cert.Proof.Launched (par smp net)
open Cert.KernelIdeal.Gen (t0_0)

/-- The reference leaves its arguments as they were and, having no semaphore, no counter above zero. -/
theorem ref_frame : Cert.quiescent_ReferenceIdeal := fun m ρ _ =>
  (θ_run _ _ _).mono (fun r h => ⟨fun c => (h c).2.2.2, sem_eq_zero_of_no_sems (by decide) r.2⟩)
    (Cert.ReferenceIdeal.Value.run m ρ)

/-- From the same arguments, under the precondition, the reference's last step holds the network the kernel ends with. -/
theorem last (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hp : Pre_KernelIdeal_edges_as_drawn m)
    (c : Dev Cert.KernelIdeal.nD)
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Ref.Rel (par m c t0_0) (smp m c t0_0) (Model.acts (par m c t0_0) (smp m c t0_0) (net m c t0_0))
      (Model.states (par m c t0_0) (smp m c t0_0) (net m c t0_0) 64) 64
      (Cert.ReferenceIdeal.Value.STEP^[64] (StableHlo.entryContents Cert.ReferenceIdeal.Value.preI m' c)) := by
  have d := Ref.drawn (hp c)
  have R := fun A => Ref.rel_entry m' c A Cert.KernelIdeal.Gen.shapeCasts_S1024_S8x128 (by rw [e4]; exact d)
  rw [e1, e2, e3, e4, e5, e6, e7, e8, e9] at R
  rw [Launched.par_eq, Launched.smp_eq, Launched.net_eq]
  exact Ref.rel_steps (Ref.ok_start d) (R _) 64 le_rfl

/-- The two programs leave the same results. -/
theorem same : Cert.algebraic_KernelIdeal_ReferenceIdeal_pre_edges_as_drawn := by
  intro m g m' g' hp hm
  refine ⟨fun c => endV (par m c t0_0) (smp m c t0_0) (net m c t0_0),
    fun c => shapeCast Cert.KernelIdeal.S1024 (endH (par m c t0_0) (smp m c t0_0) (net m c t0_0)) Cert.KernelIdeal.Gen.shapeCasts_S8x128_S1024,
    fun c => shapeCast Cert.KernelIdeal.S64 (endA (par m c t0_0) (smp m c t0_0) (net m c t0_0)) Cert.KernelIdeal.Gen.shapeCasts_S1x64_S64, ?_, ?_⟩
  · exact (θ_run _ _ _).mono (fun r h c => ⟨(h.1 c).1, (h.1 c).2.1, (h.1 c).2.2, h.2.1 c⟩)
      (θ_run_and (Launched.run m g) (Launched.frame m g))
  · refine (θ_run _ _ _).mono (fun r h c => ?_) (Cert.ReferenceIdeal.Value.run m' g')
    obtain ⟨_, e1, e2, e3, e4, e5, e6, e7, e8, e9⟩ := hm c
    have R := last m m' hp c e1 e2 e3 e4 e5 e6 e7 e8 e9
    exact ⟨(h c).1.trans (Ref.last_V R), (h c).2.1.trans (Ref.last_h R _), (h c).2.2.1.trans (Ref.last_acts R _), (h c).2.2.2⟩

theorem claim : Cert.Claim :=
  ⟨Cert.KernelIdeal.Gen.facts, Cert.ReferenceIdeal.Gen.facts, preFacts, fun m ρ _ => Launched.frame m ρ, fun m ρ _ => Launched.frame m ρ,
    ref_frame, fun m ρ _ => ref_frame m ρ trivial, same⟩

end Cert.Proof

end
